-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x1024x32 : Shape := ⟨3, ![32, 1024, 32]⟩
abbrev S8192x32 : Shape := ⟨2, ![8192, 32]⟩
abbrev S_ : Shape := ⟨0, ![]⟩

class Facts : Prop where
  bcast_S_S32x1024x32 : S_.BroadcastsInDim S32x1024x32 (![] : Fin 0 → Fin S32x1024x32.rank)
  reducesTo_S32x1024x32_S_d0_1_2 : S32x1024x32.ReducesTo [0, 1, 2] S_
  h_S_ : 0 < S_.numel
  bcast_S_S8192x32 : S_.BroadcastsInDim S8192x32 (![] : Fin 0 → Fin S8192x32.rank)
  reducesTo_S8192x32_S_d0_1 : S8192x32.ReducesTo [0, 1] S_

variable [Facts]

def fn {F : FTy → Type} [FloatOps F] (main_arg0 : FVec F S32x1024x32 .f32) (main_arg1 : FVec F S8192x32 .f32) : IVec S_ 1 :=
  let main_v0 : FVec F S32x1024x32 .f32 := Host.absf main_arg0
  let main_cst : FVec F S_ .f32 := constant S_ .f32 0x7F800000#32
  let main_v1 : FVec F S32x1024x32 .f32 := broadcastInDim S32x1024x32 ![] bcast_S_S32x1024x32 main_cst
  let main_v2 : IVec S32x1024x32 1 := cmpf .olt main_v0 main_v1
  let main_c : IVec S_ 1 := constantI S_ 1 1#1
  let main_v3 : IVec S_ 1 := (fun x v => Host.reduce IntOp.andi x v reducesTo_S32x1024x32_S_d0_1_2 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  main_v8
-- ==== Kernel.lean ====
abbrev S32x1024x32 : Shape := ⟨3, ![32, 1024, 32]⟩
abbrev S8192x32 : Shape := ⟨2, ![8192, 32]⟩
abbrev S32768x32 : Shape := ⟨2, ![32768, 32]⟩
abbrev S32x8192 : Shape := ⟨2, ![32, 8192]⟩
abbrev S_ : Shape := ⟨0, ![]⟩
abbrev S8192 : Shape := ⟨1, ![8192]⟩
abbrev S1x8192 : Shape := ⟨2, ![1, 8192]⟩
abbrev S32768x8 : Shape := ⟨2, ![32768, 8]⟩
abbrev S32768x8x32 : Shape := ⟨3, ![32768, 8, 32]⟩
abbrev S256x32 : Shape := ⟨2, ![256, 32]⟩
abbrev S256x8 : Shape := ⟨2, ![256, 8]⟩
abbrev S256x8x32 : Shape := ⟨3, ![256, 8, 32]⟩
abbrev S256x8192 : Shape := ⟨2, ![256, 8192]⟩
abbrev S256 : Shape := ⟨1, ![256]⟩
abbrev S256x1 : Shape := ⟨2, ![256, 1]⟩
abbrev S256x1x32 : Shape := ⟨3, ![256, 1, 32]⟩
abbrev S32768x1x32 : Shape := ⟨3, ![32768, 1, 32]⟩
abbrev S8 : Shape := ⟨1, ![8]⟩
abbrev S32x1024x8 : Shape := ⟨3, ![32, 1024, 8]⟩

abbrev nBuf : Space → Nat
  | .hbm => 21
  | .vmem => 9
  | .smem => 0
  | _ => 0

abbrev bufTy : (tb : Table) → Fin (tcTables nBuf tb) → BufTy
  | .hbm, ⟨0, _⟩ => ⟨S32x1024x32, .f32⟩
  | .hbm, ⟨1, _⟩ => ⟨S8192x32, .f32⟩
  | .hbm, ⟨2, _⟩ => ⟨S32768x32, .f32⟩
  | .hbm, ⟨3, _⟩ => ⟨S32x8192, .f32⟩
  | .hbm, ⟨4, _⟩ => ⟨S8192x32, .f32⟩
  | .hbm, ⟨5, _⟩ => ⟨S_, .f32⟩
  | .hbm, ⟨6, _⟩ => ⟨S8192, .f32⟩
  | .hbm, ⟨7, _⟩ => ⟨S1x8192, .f32⟩
  | .hbm, ⟨8, _⟩ => ⟨S32768x8, .i32⟩
  | .hbm, ⟨9, _⟩ => ⟨S32768x8x32, .f32⟩
  | .hbm, ⟨10, _⟩ => ⟨S32768x1x32, .f32⟩
  | .hbm, ⟨11, _⟩ => ⟨S32768x32, .f32⟩
  | .hbm, ⟨12, _⟩ => ⟨S32768x32, .f32⟩
  | .hbm, ⟨13, _⟩ => ⟨S32768x8x32, .f32⟩
  | .hbm, ⟨14, _⟩ => ⟨S_, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S32x1024x32, .f32⟩
  | .hbm, ⟨20, _⟩ => ⟨S32x1024x8, .i32⟩
  | .local _ .vmem, ⟨0, _⟩ => ⟨S256x32, .f32⟩
  | .local _ .vmem, ⟨1, _⟩ => ⟨S256x32, .f32⟩
  | .local _ .vmem, ⟨2, _⟩ => ⟨S32x8192, .f32⟩
  | .local _ .vmem, ⟨3, _⟩ => ⟨S8192x32, .f32⟩
  | .local _ .vmem, ⟨4, _⟩ => ⟨S1x8192, .f32⟩
  | .local _ .vmem, ⟨5, _⟩ => ⟨S256x8, .i32⟩
  | .local _ .vmem, ⟨6, _⟩ => ⟨S256x8, .i32⟩
  | .local _ .vmem, ⟨7, _⟩ => ⟨S256x8x32, .f32⟩
  | .local _ .vmem, ⟨8, _⟩ => ⟨S256x8x32, .f32⟩
  | _, _ => ⟨S32x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32x1024x32 : Shape := ⟨3, ![32, 1024, 32]⟩
abbrev S8192x32 : Shape := ⟨2, ![8192, 32]⟩
abbrev S_ : Shape := ⟨0, ![]⟩
abbrev S8192 : Shape := ⟨1, ![8192]⟩
abbrev S32x1024 : Shape := ⟨2, ![32, 1024]⟩
abbrev S32x1024x1 : Shape := ⟨3, ![32, 1024, 1]⟩
abbrev S32x1024x8192 : Shape := ⟨3, ![32, 1024, 8192]⟩
abbrev S1x1x8192 : Shape := ⟨3, ![1, 1, 8192]⟩
abbrev S1 : Shape := ⟨1, ![1]⟩
abbrev S1x1x1 : Shape := ⟨3, ![1, 1, 1]⟩
abbrev S32x1024x8 : Shape := ⟨3, ![32, 1024, 8]⟩
abbrev S8 : Shape := ⟨1, ![8]⟩

abbrev nBuf : Space → Nat
  | .hbm => 433
  | .vmem => 0
  | .smem => 0
  | _ => 0

abbrev hbmTy0_0 (i : Nat) : BufTy := match i % 128 with
  | 0 => ⟨S32x1024x32, .f32⟩
  | 1 => ⟨S8192x32, .f32⟩
  | 2 => ⟨S_, .f32⟩
  | 3 => ⟨S32x1024x32, .f32⟩
  | 4 => ⟨S8192x32, .f32⟩
  | 5 => ⟨S_, .f32⟩
  | 6 => ⟨S8192, .f32⟩
  | 7 => ⟨S32x1024x32, .f32⟩
  | 8 => ⟨S_, .f32⟩
  | 9 => ⟨S32x1024, .f32⟩
  | 10 => ⟨S32x1024x1, .f32⟩
  | 11 => ⟨S32x1024x8192, .f32⟩
  | 12 => ⟨S_, .f32⟩
  | 13 => ⟨S32x1024x8192, .f32⟩
  | 14 => ⟨S32x1024x8192, .f32⟩
  | 15 => ⟨S32x1024x8192, .f32⟩
  | 16 => ⟨S32x1024x8192, .f32⟩
  | 17 => ⟨S1x1x8192, .f32⟩
  | 18 => ⟨S32x1024x8192, .f32⟩
  | 19 => ⟨S32x1024x8192, .f32⟩
  | 20 => ⟨S32x1024x8192, .i32⟩
  | 21 => ⟨S_, .f32⟩
  | 22 => ⟨S_, .i32⟩
  | 23 => ⟨S32x1024, .f32⟩
  | 24 => ⟨S32x1024, .i32⟩
  | 25 => ⟨S_, .i32⟩
  | 26 => ⟨S32x1024, .i32⟩
  | 27 => ⟨S32x1024, .i1⟩
  | 28 => ⟨S_, .i32⟩
  | 29 => ⟨S32x1024, .i32⟩
  | 30 => ⟨S32x1024, .i32⟩
  | 31 => ⟨S32x1024, .i32⟩
  | 32 => ⟨S32x1024x1, .i32⟩
  | 33 => ⟨S1, .i32⟩
  | 34 => ⟨S_, .i32⟩
  | 35 => ⟨S32x1024x1, .i32⟩
  | 36 => ⟨S32x1024x1, .i1⟩
  | 37 => ⟨S1x1x1, .i32⟩
  | 38 => ⟨S32x1024x1, .i32⟩
  | 39 => ⟨S32x1024x1, .i1⟩
  | 40 => ⟨S32x1024x1, .i1⟩
  | 41 => ⟨S_, .i1⟩
  | 42 => ⟨S32x1024, .i1⟩
  | 43 => ⟨S32x1024x32, .f32⟩
  | 44 => ⟨S32x1024x32, .i1⟩
  | 45 => ⟨S_, .f32⟩
  | 46 => ⟨S32x1024x32, .f32⟩
  | 47 => ⟨S32x1024x32, .f32⟩
  | 48 => ⟨S32x1024x32, .f32⟩
  | 49 => ⟨S32x1024x32, .f32⟩
  | 50 => ⟨S_, .f32⟩
  | 51 => ⟨S_, .f32⟩
  | 52 => ⟨S_, .f32⟩
  | 53 => ⟨S_, .f32⟩
  | 54 => ⟨S32x1024x32, .f32⟩
  | 55 => ⟨S32x1024x32, .f32⟩
  | 56 => ⟨S32x1024x32, .f32⟩
  | 57 => ⟨S32x1024x32, .f32⟩
  | 58 => ⟨S32x1024x32, .f32⟩
  | 59 => ⟨S_, .f32⟩
  | 60 => ⟨S32x1024, .f32⟩
  | 61 => ⟨S32x1024x1, .f32⟩
  | 62 => ⟨S32x1024x8192, .f32⟩
  | 63 => ⟨S_, .f32⟩
  | 64 => ⟨S32x1024x8192, .f32⟩
  | 65 => ⟨S32x1024x8192, .f32⟩
  | 66 => ⟨S32x1024x8192, .f32⟩
  | 67 => ⟨S32x1024x8192, .f32⟩
  | 68 => ⟨S1x1x8192, .f32⟩
  | 69 => ⟨S32x1024x8192, .f32⟩
  | 70 => ⟨S32x1024x8192, .f32⟩
  | 71 => ⟨S32x1024x8192, .i32⟩
  | 72 => ⟨S_, .f32⟩
  | 73 => ⟨S_, .i32⟩
  | 74 => ⟨S32x1024, .f32⟩
  | 75 => ⟨S32x1024, .i32⟩
  | 76 => ⟨S_, .i32⟩
  | 77 => ⟨S32x1024, .i32⟩
  | 78 => ⟨S32x1024, .i1⟩
  | 79 => ⟨S_, .i32⟩
  | 80 => ⟨S32x1024, .i32⟩
  | 81 => ⟨S32x1024, .i32⟩
  | 82 => ⟨S32x1024, .i32⟩
  | 83 => ⟨S32x1024x1, .i32⟩
  | 84 => ⟨S1, .i32⟩
  | 85 => ⟨S_, .i32⟩
  | 86 => ⟨S32x1024x1, .i32⟩
  | 87 => ⟨S32x1024x1, .i1⟩
  | 88 => ⟨S1x1x1, .i32⟩
  | 89 => ⟨S32x1024x1, .i32⟩
  | 90 => ⟨S32x1024x1, .i1⟩
  | 91 => ⟨S32x1024x1, .i1⟩
  | 92 => ⟨S_, .i1⟩
  | 93 => ⟨S32x1024, .i1⟩
  | 94 => ⟨S32x1024x32, .f32⟩
  | 95 => ⟨S32x1024x32, .i1⟩
  | 96 => ⟨S_, .f32⟩
  | 97 => ⟨S32x1024x32, .f32⟩
  | 98 => ⟨S32x1024x32, .f32⟩
  | 99 => ⟨S32x1024x32, .f32⟩
  | 100 => ⟨S32x1024x32, .f32⟩
  | 101 => ⟨S_, .f32⟩
  | 102 => ⟨S_, .f32⟩
  | 103 => ⟨S_, .f32⟩
  | 104 => ⟨S_, .f32⟩
  | 105 => ⟨S32x1024x32, .f32⟩
  | 106 => ⟨S32x1024x32, .f32⟩
  | 107 => ⟨S32x1024x32, .f32⟩
  | 108 => ⟨S32x1024x32, .f32⟩
  | 109 => ⟨S32x1024x32, .f32⟩
  | 110 => ⟨S_, .f32⟩
  | 111 => ⟨S32x1024, .f32⟩
  | 112 => ⟨S32x1024x1, .f32⟩
  | 113 => ⟨S32x1024x8192, .f32⟩
  | 114 => ⟨S_, .f32⟩
  | 115 => ⟨S32x1024x8192, .f32⟩
  | 116 => ⟨S32x1024x8192, .f32⟩
  | 117 => ⟨S32x1024x8192, .f32⟩
  | 118 => ⟨S32x1024x8192, .f32⟩
  | 119 => ⟨S1x1x8192, .f32⟩
  | 120 => ⟨S32x1024x8192, .f32⟩
  | 121 => ⟨S32x1024x8192, .f32⟩
  | 122 => ⟨S32x1024x8192, .i32⟩
  | 123 => ⟨S_, .f32⟩
  | 124 => ⟨S_, .i32⟩
  | 125 => ⟨S32x1024, .f32⟩
  | 126 => ⟨S32x1024, .i32⟩
  | 127 => ⟨S_, .i32⟩
  | _ => ⟨S32x1024x32, .f32⟩

abbrev hbmTy0_1 (i : Nat) : BufTy := match i % 128 with
  | 0 => ⟨S32x1024, .i32⟩
  | 1 => ⟨S32x1024, .i1⟩
  | 2 => ⟨S_, .i32⟩
  | 3 => ⟨S32x1024, .i32⟩
  | 4 => ⟨S32x1024, .i32⟩
  | 5 => ⟨S32x1024, .i32⟩
  | 6 => ⟨S32x1024x1, .i32⟩
  | 7 => ⟨S1, .i32⟩
  | 8 => ⟨S_, .i32⟩
  | 9 => ⟨S32x1024x1, .i32⟩
  | 10 => ⟨S32x1024x1, .i1⟩
  | 11 => ⟨S1x1x1, .i32⟩
  | 12 => ⟨S32x1024x1, .i32⟩
  | 13 => ⟨S32x1024x1, .i1⟩
  | 14 => ⟨S32x1024x1, .i1⟩
  | 15 => ⟨S_, .i1⟩
  | 16 => ⟨S32x1024, .i1⟩
  | 17 => ⟨S32x1024x32, .f32⟩
  | 18 => ⟨S32x1024x32, .i1⟩
  | 19 => ⟨S_, .f32⟩
  | 20 => ⟨S32x1024x32, .f32⟩
  | 21 => ⟨S32x1024x32, .f32⟩
  | 22 => ⟨S32x1024x32, .f32⟩
  | 23 => ⟨S32x1024x32, .f32⟩
  | 24 => ⟨S_, .f32⟩
  | 25 => ⟨S_, .f32⟩
  | 26 => ⟨S_, .f32⟩
  | 27 => ⟨S_, .f32⟩
  | 28 => ⟨S32x1024x32, .f32⟩
  | 29 => ⟨S32x1024x32, .f32⟩
  | 30 => ⟨S32x1024x32, .f32⟩
  | 31 => ⟨S32x1024x32, .f32⟩
  | 32 => ⟨S32x1024x32, .f32⟩
  | 33 => ⟨S_, .f32⟩
  | 34 => ⟨S32x1024, .f32⟩
  | 35 => ⟨S32x1024x1, .f32⟩
  | 36 => ⟨S32x1024x8192, .f32⟩
  | 37 => ⟨S_, .f32⟩
  | 38 => ⟨S32x1024x8192, .f32⟩
  | 39 => ⟨S32x1024x8192, .f32⟩
  | 40 => ⟨S32x1024x8192, .f32⟩
  | 41 => ⟨S32x1024x8192, .f32⟩
  | 42 => ⟨S1x1x8192, .f32⟩
  | 43 => ⟨S32x1024x8192, .f32⟩
  | 44 => ⟨S32x1024x8192, .f32⟩
  | 45 => ⟨S32x1024x8192, .i32⟩
  | 46 => ⟨S_, .f32⟩
  | 47 => ⟨S_, .i32⟩
  | 48 => ⟨S32x1024, .f32⟩
  | 49 => ⟨S32x1024, .i32⟩
  | 50 => ⟨S_, .i32⟩
  | 51 => ⟨S32x1024, .i32⟩
  | 52 => ⟨S32x1024, .i1⟩
  | 53 => ⟨S_, .i32⟩
  | 54 => ⟨S32x1024, .i32⟩
  | 55 => ⟨S32x1024, .i32⟩
  | 56 => ⟨S32x1024, .i32⟩
  | 57 => ⟨S32x1024x1, .i32⟩
  | 58 => ⟨S1, .i32⟩
  | 59 => ⟨S_, .i32⟩
  | 60 => ⟨S32x1024x1, .i32⟩
  | 61 => ⟨S32x1024x1, .i1⟩
  | 62 => ⟨S1x1x1, .i32⟩
  | 63 => ⟨S32x1024x1, .i32⟩
  | 64 => ⟨S32x1024x1, .i1⟩
  | 65 => ⟨S32x1024x1, .i1⟩
  | 66 => ⟨S_, .i1⟩
  | 67 => ⟨S32x1024, .i1⟩
  | 68 => ⟨S32x1024x32, .f32⟩
  | 69 => ⟨S32x1024x32, .i1⟩
  | 70 => ⟨S_, .f32⟩
  | 71 => ⟨S32x1024x32, .f32⟩
  | 72 => ⟨S32x1024x32, .f32⟩
  | 73 => ⟨S32x1024x32, .f32⟩
  | 74 => ⟨S32x1024x32, .f32⟩
  | 75 => ⟨S_, .f32⟩
  | 76 => ⟨S_, .f32⟩
  | 77 => ⟨S_, .f32⟩
  | 78 => ⟨S_, .f32⟩
  | 79 => ⟨S32x1024x32, .f32⟩
  | 80 => ⟨S32x1024x32, .f32⟩
  | 81 => ⟨S32x1024x32, .f32⟩
  | 82 => ⟨S32x1024x32, .f32⟩
  | 83 => ⟨S32x1024x32, .f32⟩
  | 84 => ⟨S_, .f32⟩
  | 85 => ⟨S32x1024, .f32⟩
  | 86 => ⟨S32x1024x1, .f32⟩
  | 87 => ⟨S32x1024x8192, .f32⟩
  | 88 => ⟨S_, .f32⟩
  | 89 => ⟨S32x1024x8192, .f32⟩
  | 90 => ⟨S32x1024x8192, .f32⟩
  | 91 => ⟨S32x1024x8192, .f32⟩
  | 92 => ⟨S32x1024x8192, .f32⟩
  | 93 => ⟨S1x1x8192, .f32⟩
  | 94 => ⟨S32x1024x8192, .f32⟩
  | 95 => ⟨S32x1024x8192, .f32⟩
  | 96 => ⟨S32x1024x8192, .i32⟩
  | 97 => ⟨S_, .f32⟩
  | 98 => ⟨S_, .i32⟩
  | 99 => ⟨S32x1024, .f32⟩
  | 100 => ⟨S32x1024, .i32⟩
  | 101 => ⟨S_, .i32⟩
  | 102 => ⟨S32x1024, .i32⟩
  | 103 => ⟨S32x1024, .i1⟩
  | 104 => ⟨S_, .i32⟩
  | 105 => ⟨S32x1024, .i32⟩
  | 106 => ⟨S32x1024, .i32⟩
  | 107 => ⟨S32x1024, .i32⟩
  | 108 => ⟨S32x1024x1, .i32⟩
  | 109 => ⟨S1, .i32⟩
  | 110 => ⟨S_, .i32⟩
  | 111 => ⟨S32x1024x1, .i32⟩
  | 112 => ⟨S32x1024x1, .i1⟩
  | 113 => ⟨S1x1x1, .i32⟩
  | 114 => ⟨S32x1024x1, .i32⟩
  | 115 => ⟨S32x1024x1, .i1⟩
  | 116 => ⟨S32x1024x1, .i1⟩
  | 117 => ⟨S_, .i1⟩
  | 118 => ⟨S32x1024, .i1⟩
  | 119 => ⟨S32x1024x32, .f32⟩
  | 120 => ⟨S32x1024x32, .i1⟩
  | 121 => ⟨S_, .f32⟩
  | 122 => ⟨S32x1024x32, .f32⟩
  | 123 => ⟨S32x1024x32, .f32⟩
  | 124 => ⟨S32x1024x32, .f32⟩
  | 125 => ⟨S32x1024x32, .f32⟩
  | 126 => ⟨S_, .f32⟩
  | 127 => ⟨S_, .f32⟩
  | _ => ⟨S32x1024x32, .f32⟩

abbrev hbmTy0_2 (i : Nat) : BufTy := match i % 128 with
  | 0 => ⟨S_, .f32⟩
  | 1 => ⟨S_, .f32⟩
  | 2 => ⟨S32x1024x32, .f32⟩
  | 3 => ⟨S32x1024x32, .f32⟩
  | 4 => ⟨S32x1024x32, .f32⟩
  | 5 => ⟨S32x1024x32, .f32⟩
  | 6 => ⟨S32x1024x32, .f32⟩
  | 7 => ⟨S_, .f32⟩
  | 8 => ⟨S32x1024, .f32⟩
  | 9 => ⟨S32x1024x1, .f32⟩
  | 10 => ⟨S32x1024x8192, .f32⟩
  | 11 => ⟨S_, .f32⟩
  | 12 => ⟨S32x1024x8192, .f32⟩
  | 13 => ⟨S32x1024x8192, .f32⟩
  | 14 => ⟨S32x1024x8192, .f32⟩
  | 15 => ⟨S32x1024x8192, .f32⟩
  | 16 => ⟨S1x1x8192, .f32⟩
  | 17 => ⟨S32x1024x8192, .f32⟩
  | 18 => ⟨S32x1024x8192, .f32⟩
  | 19 => ⟨S32x1024x8192, .i32⟩
  | 20 => ⟨S_, .f32⟩
  | 21 => ⟨S_, .i32⟩
  | 22 => ⟨S32x1024, .f32⟩
  | 23 => ⟨S32x1024, .i32⟩
  | 24 => ⟨S_, .i32⟩
  | 25 => ⟨S32x1024, .i32⟩
  | 26 => ⟨S32x1024, .i1⟩
  | 27 => ⟨S_, .i32⟩
  | 28 => ⟨S32x1024, .i32⟩
  | 29 => ⟨S32x1024, .i32⟩
  | 30 => ⟨S32x1024, .i32⟩
  | 31 => ⟨S32x1024x1, .i32⟩
  | 32 => ⟨S1, .i32⟩
  | 33 => ⟨S_, .i32⟩
  | 34 => ⟨S32x1024x1, .i32⟩
  | 35 => ⟨S32x1024x1, .i1⟩
  | 36 => ⟨S1x1x1, .i32⟩
  | 37 => ⟨S32x1024x1, .i32⟩
  | 38 => ⟨S32x1024x1, .i1⟩
  | 39 => ⟨S32x1024x1, .i1⟩
  | 40 => ⟨S_, .i1⟩
  | 41 => ⟨S32x1024, .i1⟩
  | 42 => ⟨S32x1024x32, .f32⟩
  | 43 => ⟨S32x1024x32, .i1⟩
  | 44 => ⟨S_, .f32⟩
  | 45 => ⟨S32x1024x32, .f32⟩
  | 46 => ⟨S32x1024x32, .f32⟩
  | 47 => ⟨S32x1024x32, .f32⟩
  | 48 => ⟨S32x1024x32, .f32⟩
  | 49 => ⟨S_, .f32⟩
  | 50 => ⟨S_, .f32⟩
  | 51 => ⟨S_, .f32⟩
  | 52 => ⟨S_, .f32⟩
  | 53 => ⟨S32x1024x32, .f32⟩
  | 54 => ⟨S32x1024x32, .f32⟩
  | 55 => ⟨S32x1024x32, .f32⟩
  | 56 => ⟨S32x1024x32, .f32⟩
  | 57 => ⟨S32x1024x32, .f32⟩
  | 58 => ⟨S_, .f32⟩
  | 59 => ⟨S32x1024, .f32⟩
  | 60 => ⟨S32x1024x1, .f32⟩
  | 61 => ⟨S32x1024x8192, .f32⟩
  | 62 => ⟨S_, .f32⟩
  | 63 => ⟨S32x1024x8192, .f32⟩
  | 64 => ⟨S32x1024x8192, .f32⟩
  | 65 => ⟨S32x1024x8192, .f32⟩
  | 66 => ⟨S32x1024x8192, .f32⟩
  | 67 => ⟨S1x1x8192, .f32⟩
  | 68 => ⟨S32x1024x8192, .f32⟩
  | 69 => ⟨S32x1024x8192, .f32⟩
  | 70 => ⟨S32x1024x8192, .i32⟩
  | 71 => ⟨S_, .f32⟩
  | 72 => ⟨S_, .i32⟩
  | 73 => ⟨S32x1024, .f32⟩
  | 74 => ⟨S32x1024, .i32⟩
  | 75 => ⟨S_, .i32⟩
  | 76 => ⟨S32x1024, .i32⟩
  | 77 => ⟨S32x1024, .i1⟩
  | 78 => ⟨S_, .i32⟩
  | 79 => ⟨S32x1024, .i32⟩
  | 80 => ⟨S32x1024, .i32⟩
  | 81 => ⟨S32x1024, .i32⟩
  | 82 => ⟨S32x1024x1, .i32⟩
  | 83 => ⟨S1, .i32⟩
  | 84 => ⟨S_, .i32⟩
  | 85 => ⟨S32x1024x1, .i32⟩
  | 86 => ⟨S32x1024x1, .i1⟩
  | 87 => ⟨S1x1x1, .i32⟩
  | 88 => ⟨S32x1024x1, .i32⟩
  | 89 => ⟨S32x1024x1, .i1⟩
  | 90 => ⟨S32x1024x1, .i1⟩
  | 91 => ⟨S_, .i1⟩
  | 92 => ⟨S32x1024, .i1⟩
  | 93 => ⟨S32x1024x32, .f32⟩
  | 94 => ⟨S32x1024x32, .i1⟩
  | 95 => ⟨S_, .f32⟩
  | 96 => ⟨S32x1024x32, .f32⟩
  | 97 => ⟨S32x1024x32, .f32⟩
  | 98 => ⟨S32x1024x32, .f32⟩
  | 99 => ⟨S32x1024x32, .f32⟩
  | 100 => ⟨S_, .f32⟩
  | 101 => ⟨S_, .f32⟩
  | 102 => ⟨S_, .f32⟩
  | 103 => ⟨S_, .f32⟩
  | 104 => ⟨S32x1024x32, .f32⟩
  | 105 => ⟨S32x1024x32, .f32⟩
  | 106 => ⟨S32x1024x32, .f32⟩
  | 107 => ⟨S32x1024x32, .f32⟩
  | 108 => ⟨S32x1024x32, .f32⟩
  | 109 => ⟨S_, .f32⟩
  | 110 => ⟨S32x1024, .f32⟩
  | 111 => ⟨S32x1024x1, .f32⟩
  | 112 => ⟨S32x1024x8192, .f32⟩
  | 113 => ⟨S_, .f32⟩
  | 114 => ⟨S32x1024x8192, .f32⟩
  | 115 => ⟨S32x1024x8192, .f32⟩
  | 116 => ⟨S32x1024x8192, .f32⟩
  | 117 => ⟨S32x1024x8192, .f32⟩
  | 118 => ⟨S1x1x8192, .f32⟩
  | 119 => ⟨S32x1024x8192, .f32⟩
  | 120 => ⟨S32x1024x8192, .f32⟩
  | 121 => ⟨S32x1024x8192, .i32⟩
  | 122 => ⟨S_, .f32⟩
  | 123 => ⟨S_, .i32⟩
  | 124 => ⟨S32x1024, .f32⟩
  | 125 => ⟨S32x1024, .i32⟩
  | 126 => ⟨S_, .i32⟩
  | 127 => ⟨S32x1024, .i32⟩
  | _ => ⟨S32x1024x32, .f32⟩

abbrev hbmTy0_3 (i : Nat) : BufTy := match i % 128 with
  | 0 => ⟨S32x1024, .i1⟩
  | 1 => ⟨S_, .i32⟩
  | 2 => ⟨S32x1024, .i32⟩
  | 3 => ⟨S32x1024, .i32⟩
  | 4 => ⟨S32x1024, .i32⟩
  | 5 => ⟨S32x1024x1, .i32⟩
  | 6 => ⟨S1, .i32⟩
  | 7 => ⟨S_, .i32⟩
  | 8 => ⟨S32x1024x1, .i32⟩
  | 9 => ⟨S32x1024x1, .i1⟩
  | 10 => ⟨S1x1x1, .i32⟩
  | 11 => ⟨S32x1024x1, .i32⟩
  | 12 => ⟨S32x1024x1, .i1⟩
  | 13 => ⟨S32x1024x1, .i1⟩
  | 14 => ⟨S_, .i1⟩
  | 15 => ⟨S32x1024, .i1⟩
  | 16 => ⟨S32x1024x32, .f32⟩
  | 17 => ⟨S32x1024x32, .i1⟩
  | 18 => ⟨S_, .f32⟩
  | 19 => ⟨S32x1024x32, .f32⟩
  | 20 => ⟨S32x1024x32, .f32⟩
  | 21 => ⟨S32x1024x32, .f32⟩
  | 22 => ⟨S32x1024x32, .f32⟩
  | 23 => ⟨S_, .f32⟩
  | 24 => ⟨S_, .f32⟩
  | 25 => ⟨S_, .f32⟩
  | 26 => ⟨S_, .f32⟩
  | 27 => ⟨S32x1024x32, .f32⟩
  | 28 => ⟨S32x1024x32, .f32⟩
  | 29 => ⟨S32x1024x32, .f32⟩
  | 30 => ⟨S32x1024x32, .f32⟩
  | 31 => ⟨S32x1024x1, .i32⟩
  | 32 => ⟨S32x1024x1, .i32⟩
  | 33 => ⟨S32x1024x1, .i32⟩
  | 34 => ⟨S32x1024x1, .i32⟩
  | 35 => ⟨S32x1024x1, .i32⟩
  | 36 => ⟨S32x1024x1, .i32⟩
  | 37 => ⟨S32x1024x1, .i32⟩
  | 38 => ⟨S32x1024x1, .i32⟩
  | 39 => ⟨S32x1024x8, .i32⟩
  | 40 => ⟨S1, .f32⟩
  | 41 => ⟨S1, .f32⟩
  | 42 => ⟨S1, .f32⟩
  | 43 => ⟨S1, .f32⟩
  | 44 => ⟨S1, .f32⟩
  | 45 => ⟨S1, .f32⟩
  | 46 => ⟨S1, .f32⟩
  | 47 => ⟨S1, .f32⟩
  | 48 => ⟨S8, .f32⟩
  | _ => ⟨S32x1024x32, .f32⟩

abbrev hbmTy (i : Nat) : BufTy := match i / 128 with
  | 0 => hbmTy0_0 i
  | 1 => hbmTy0_1 i
  | 2 => hbmTy0_2 i
  | 3 => hbmTy0_3 i
  | _ => ⟨S32x1024x32, .f32⟩

abbrev bufTy : (tb : Table) → Fin (tcTables nBuf tb) → BufTy
  | .hbm, ⟨i, _⟩ => hbmTy i
  | _, _ => ⟨S32x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_call0_v0 : Ref sig .tc := ⟨.hbm, 20, rfl⟩
abbrev main_call0_call0_cst : Ref sig .tc := ⟨.hbm, 21, rfl⟩
abbrev main_call0_call0_c : Ref sig .tc := ⟨.hbm, 22, rfl⟩
abbrev main_call0_call0_v1_0 : Ref sig .tc := ⟨.hbm, 23, rfl⟩
abbrev main_v3_0 : Ref sig .tc := ⟨.hbm, 24, rfl⟩
abbrev main_call0_call1_c : Ref sig .tc := ⟨.hbm, 25, rfl⟩
abbrev main_call0_call1_v0 : Ref sig .tc := ⟨.hbm, 26, rfl⟩
abbrev main_call0_call1_v1 : Ref sig .tc := ⟨.hbm, 27, rfl⟩
abbrev main_call0_call1_c_0 : Ref sig .tc := ⟨.hbm, 28, rfl⟩
abbrev main_call0_call1_v2 : Ref sig .tc := ⟨.hbm, 29, rfl⟩
abbrev main_call0_call1_v3 : Ref sig .tc := ⟨.hbm, 30, rfl⟩
abbrev main_call0_call1_v4 : Ref sig .tc := ⟨.hbm, 31, rfl⟩
abbrev main_call0_call1_v5 : Ref sig .tc := ⟨.hbm, 32, rfl⟩
abbrev main_call0_call1_c_1 : Ref sig .tc := ⟨.hbm, 33, rfl⟩
abbrev main_call0_call1_c_2 : Ref sig .tc := ⟨.hbm, 34, rfl⟩
abbrev main_call0_call1_v6 : Ref sig .tc := ⟨.hbm, 35, rfl⟩
abbrev main_call0_call1_v7 : Ref sig .tc := ⟨.hbm, 36, rfl⟩
abbrev main_call0_call1_v8 : Ref sig .tc := ⟨.hbm, 37, rfl⟩
abbrev main_call0_call1_v9 : Ref sig .tc := ⟨.hbm, 38, rfl⟩
abbrev main_call0_call1_v10 : Ref sig .tc := ⟨.hbm, 39, rfl⟩
abbrev main_call0_call1_v11 : Ref sig .tc := ⟨.hbm, 40, rfl⟩
abbrev main_call0_call1_c_3 : Ref sig .tc := ⟨.hbm, 41, rfl⟩
abbrev main_call0_call1_v12 : Ref sig .tc := ⟨.hbm, 42, rfl⟩
abbrev main_call0_call1_v13 : Ref sig .tc := ⟨.hbm, 43, rfl⟩
abbrev main_call0_call1_v14 : Ref sig .tc := ⟨.hbm, 44, rfl⟩
abbrev main_call0_call1_cst : Ref sig .tc := ⟨.hbm, 45, rfl⟩
abbrev main_call0_call1_v15 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst_1 : Ref sig .tc := ⟨.hbm, 50, rfl⟩
abbrev main_call0_v15 : Ref sig .tc := ⟨.hbm, 51, rfl⟩
abbrev main_call0_cst_2 : Ref sig .tc := ⟨.hbm, 52, rfl⟩
abbrev main_v3_1 : Ref sig .tc := ⟨.hbm, 53, rfl⟩
abbrev main_call0_v17 : Ref sig .tc := ⟨.hbm, 54, rfl⟩
abbrev main_v3_2 : Ref sig .tc := ⟨.hbm, 55, rfl⟩
abbrev main_v3_3 : Ref sig .tc := ⟨.hbm, 56, rfl⟩
abbrev main_v4 : Ref sig .tc := ⟨.hbm, 57, rfl⟩
abbrev main_call1_v0 : Ref sig .tc := ⟨.hbm, 58, rfl⟩
abbrev main_call1_cst : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_call0_v0 : Ref sig .tc := ⟨.hbm, 71, rfl⟩
abbrev main_call1_call0_cst : Ref sig .tc := ⟨.hbm, 72, rfl⟩
abbrev main_call1_call0_c : Ref sig .tc := ⟨.hbm, 73, rfl⟩
abbrev main_call1_call0_v1_0 : Ref sig .tc := ⟨.hbm, 74, rfl⟩
abbrev main_v5_0 : Ref sig .tc := ⟨.hbm, 75, rfl⟩
abbrev main_call1_call1_c : Ref sig .tc := ⟨.hbm, 76, rfl⟩
abbrev main_call1_call1_v0 : Ref sig .tc := ⟨.hbm, 77, rfl⟩
abbrev main_call1_call1_v1 : Ref sig .tc := ⟨.hbm, 78, rfl⟩
abbrev main_call1_call1_c_0 : Ref sig .tc := ⟨.hbm, 79, rfl⟩
abbrev main_call1_call1_v2 : Ref sig .tc := ⟨.hbm, 80, rfl⟩
abbrev main_call1_call1_v3 : Ref sig .tc := ⟨.hbm, 81, rfl⟩
abbrev main_call1_call1_v4 : Ref sig .tc := ⟨.hbm, 82, rfl⟩
abbrev main_call1_call1_v5 : Ref sig .tc := ⟨.hbm, 83, rfl⟩
abbrev main_call1_call1_c_1 : Ref sig .tc := ⟨.hbm, 84, rfl⟩
abbrev main_call1_call1_c_2 : Ref sig .tc := ⟨.hbm, 85, rfl⟩
abbrev main_call1_call1_v6 : Ref sig .tc := ⟨.hbm, 86, rfl⟩
abbrev main_call1_call1_v7 : Ref sig .tc := ⟨.hbm, 87, rfl⟩
abbrev main_call1_call1_v8 : Ref sig .tc := ⟨.hbm, 88, rfl⟩
abbrev main_call1_call1_v9 : Ref sig .tc := ⟨.hbm, 89, rfl⟩
abbrev main_call1_call1_v10 : Ref sig .tc := ⟨.hbm, 90, rfl⟩
abbrev main_call1_call1_v11 : Ref sig .tc := ⟨.hbm, 91, rfl⟩
abbrev main_call1_call1_c_3 : Ref sig .tc := ⟨.hbm, 92, rfl⟩
abbrev main_call1_call1_v12 : Ref sig .tc := ⟨.hbm, 93, rfl⟩
abbrev main_call1_call1_v13 : Ref sig .tc := ⟨.hbm, 94, rfl⟩
abbrev main_call1_call1_v14 : Ref sig .tc := ⟨.hbm, 95, rfl⟩
abbrev main_call1_call1_cst : Ref sig .tc := ⟨.hbm, 96, rfl⟩
abbrev main_call1_call1_v15 : Ref sig .tc := ⟨.hbm, 97, rfl⟩
abbrev main_call1_v12 : Ref sig .tc := ⟨.hbm, 98, rfl⟩
abbrev main_call1_v13 : Ref sig .tc := ⟨.hbm, 99, rfl⟩
abbrev main_call1_v14 : Ref sig .tc := ⟨.hbm, 100, rfl⟩
abbrev main_call1_cst_1 : Ref sig .tc := ⟨.hbm, 101, rfl⟩
abbrev main_call1_v15 : Ref sig .tc := ⟨.hbm, 102, rfl⟩
abbrev main_call1_cst_2 : Ref sig .tc := ⟨.hbm, 103, rfl⟩
abbrev main_v5_1 : Ref sig .tc := ⟨.hbm, 104, rfl⟩
abbrev main_call1_v17 : Ref sig .tc := ⟨.hbm, 105, rfl⟩
abbrev main_v5_2 : Ref sig .tc := ⟨.hbm, 106, rfl⟩
abbrev main_v5_3 : Ref sig .tc := ⟨.hbm, 107, rfl⟩
abbrev main_v6 : Ref sig .tc := ⟨.hbm, 108, rfl⟩
abbrev main_call2_v0 : Ref sig .tc := ⟨.hbm, 109, rfl⟩
abbrev main_call2_cst : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_cst_0 : Ref sig .tc := ⟨.hbm, 114, rfl⟩
abbrev main_call2_v4 : Ref sig .tc := ⟨.hbm, 115, rfl⟩
abbrev main_call2_v5 : Ref sig .tc := ⟨.hbm, 116, rfl⟩
abbrev main_call2_v6 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_call2_call0_v0 : Ref sig .tc := ⟨.hbm, 122, rfl⟩
abbrev main_call2_call0_cst : Ref sig .tc := ⟨.hbm, 123, rfl⟩
abbrev main_call2_call0_c : Ref sig .tc := ⟨.hbm, 124, rfl⟩
abbrev main_call2_call0_v1_0 : Ref sig .tc := ⟨.hbm, 125, rfl⟩
abbrev main_v7_0 : Ref sig .tc := ⟨.hbm, 126, rfl⟩
abbrev main_call2_call1_c : Ref sig .tc := ⟨.hbm, 127, rfl⟩
abbrev main_call2_call1_v0 : Ref sig .tc := ⟨.hbm, 128, rfl⟩
abbrev main_call2_call1_v1 : Ref sig .tc := ⟨.hbm, 129, rfl⟩
abbrev main_call2_call1_c_0 : Ref sig .tc := ⟨.hbm, 130, rfl⟩
abbrev main_call2_call1_v2 : Ref sig .tc := ⟨.hbm, 131, rfl⟩
abbrev main_call2_call1_v3 : Ref sig .tc := ⟨.hbm, 132, rfl⟩
abbrev main_call2_call1_v4 : Ref sig .tc := ⟨.hbm, 133, rfl⟩
abbrev main_call2_call1_v5 : Ref sig .tc := ⟨.hbm, 134, rfl⟩
abbrev main_call2_call1_c_1 : Ref sig .tc := ⟨.hbm, 135, rfl⟩
abbrev main_call2_call1_c_2 : Ref sig .tc := ⟨.hbm, 136, rfl⟩
abbrev main_call2_call1_v6 : Ref sig .tc := ⟨.hbm, 137, rfl⟩
abbrev main_call2_call1_v7 : Ref sig .tc := ⟨.hbm, 138, rfl⟩
abbrev main_call2_call1_v8 : Ref sig .tc := ⟨.hbm, 139, rfl⟩
abbrev main_call2_call1_v9 : Ref sig .tc := ⟨.hbm, 140, rfl⟩
abbrev main_call2_call1_v10 : Ref sig .tc := ⟨.hbm, 141, rfl⟩
abbrev main_call2_call1_v11 : Ref sig .tc := ⟨.hbm, 142, rfl⟩
abbrev main_call2_call1_c_3 : Ref sig .tc := ⟨.hbm, 143, rfl⟩
abbrev main_call2_call1_v12 : Ref sig .tc := ⟨.hbm, 144, rfl⟩
abbrev main_call2_call1_v13 : Ref sig .tc := ⟨.hbm, 145, rfl⟩
abbrev main_call2_call1_v14 : Ref sig .tc := ⟨.hbm, 146, rfl⟩
abbrev main_call2_call1_cst : Ref sig .tc := ⟨.hbm, 147, rfl⟩
abbrev main_call2_call1_v15 : Ref sig .tc := ⟨.hbm, 148, rfl⟩
abbrev main_call2_v12 : Ref sig .tc := ⟨.hbm, 149, rfl⟩
abbrev main_call2_v13 : Ref sig .tc := ⟨.hbm, 150, rfl⟩
abbrev main_call2_v14 : Ref sig .tc := ⟨.hbm, 151, rfl⟩
abbrev main_call2_cst_1 : Ref sig .tc := ⟨.hbm, 152, rfl⟩
abbrev main_call2_v15 : Ref sig .tc := ⟨.hbm, 153, rfl⟩
abbrev main_call2_cst_2 : Ref sig .tc := ⟨.hbm, 154, rfl⟩
abbrev main_v7_1 : Ref sig .tc := ⟨.hbm, 155, rfl⟩
abbrev main_call2_v17 : Ref sig .tc := ⟨.hbm, 156, rfl⟩
abbrev main_v7_2 : Ref sig .tc := ⟨.hbm, 157, rfl⟩
abbrev main_v7_3 : Ref sig .tc := ⟨.hbm, 158, rfl⟩
abbrev main_v8 : Ref sig .tc := ⟨.hbm, 159, rfl⟩
abbrev main_call3_v0 : Ref sig .tc := ⟨.hbm, 160, rfl⟩
abbrev main_call3_cst : Ref sig .tc := ⟨.hbm, 161, rfl⟩
abbrev main_call3_v1 : Ref sig .tc := ⟨.hbm, 162, rfl⟩
abbrev main_call3_v2 : Ref sig .tc := ⟨.hbm, 163, rfl⟩
abbrev main_call3_v3 : Ref sig .tc := ⟨.hbm, 164, rfl⟩
abbrev main_call3_cst_0 : Ref sig .tc := ⟨.hbm, 165, rfl⟩
abbrev main_call3_v4 : Ref sig .tc := ⟨.hbm, 166, rfl⟩
abbrev main_call3_v5 : Ref sig .tc := ⟨.hbm, 167, rfl⟩
abbrev main_call3_v6 : Ref sig .tc := ⟨.hbm, 168, rfl⟩
abbrev main_call3_v7 : Ref sig .tc := ⟨.hbm, 169, rfl⟩
abbrev main_call3_v8 : Ref sig .tc := ⟨.hbm, 170, rfl⟩
abbrev main_call3_v9 : Ref sig .tc := ⟨.hbm, 171, rfl⟩
abbrev main_call3_v10 : Ref sig .tc := ⟨.hbm, 172, rfl⟩
abbrev main_call3_call0_v0 : Ref sig .tc := ⟨.hbm, 173, rfl⟩
abbrev main_call3_call0_cst : Ref sig .tc := ⟨.hbm, 174, rfl⟩
abbrev main_call3_call0_c : Ref sig .tc := ⟨.hbm, 175, rfl⟩
abbrev main_call3_call0_v1_0 : Ref sig .tc := ⟨.hbm, 176, rfl⟩
abbrev main_v9_0 : Ref sig .tc := ⟨.hbm, 177, rfl⟩
abbrev main_call3_call1_c : Ref sig .tc := ⟨.hbm, 178, rfl⟩
abbrev main_call3_call1_v0 : Ref sig .tc := ⟨.hbm, 179, rfl⟩
abbrev main_call3_call1_v1 : Ref sig .tc := ⟨.hbm, 180, rfl⟩
abbrev main_call3_call1_c_0 : Ref sig .tc := ⟨.hbm, 181, rfl⟩
abbrev main_call3_call1_v2 : Ref sig .tc := ⟨.hbm, 182, rfl⟩
abbrev main_call3_call1_v3 : Ref sig .tc := ⟨.hbm, 183, rfl⟩
abbrev main_call3_call1_v4 : Ref sig .tc := ⟨.hbm, 184, rfl⟩
abbrev main_call3_call1_v5 : Ref sig .tc := ⟨.hbm, 185, rfl⟩
abbrev main_call3_call1_c_1 : Ref sig .tc := ⟨.hbm, 186, rfl⟩
abbrev main_call3_call1_c_2 : Ref sig .tc := ⟨.hbm, 187, rfl⟩
abbrev main_call3_call1_v6 : Ref sig .tc := ⟨.hbm, 188, rfl⟩
abbrev main_call3_call1_v7 : Ref sig .tc := ⟨.hbm, 189, rfl⟩
abbrev main_call3_call1_v8 : Ref sig .tc := ⟨.hbm, 190, rfl⟩
abbrev main_call3_call1_v9 : Ref sig .tc := ⟨.hbm, 191, rfl⟩
abbrev main_call3_call1_v10 : Ref sig .tc := ⟨.hbm, 192, rfl⟩
abbrev main_call3_call1_v11 : Ref sig .tc := ⟨.hbm, 193, rfl⟩
abbrev main_call3_call1_c_3 : Ref sig .tc := ⟨.hbm, 194, rfl⟩
abbrev main_call3_call1_v12 : Ref sig .tc := ⟨.hbm, 195, rfl⟩
abbrev main_call3_call1_v13 : Ref sig .tc := ⟨.hbm, 196, rfl⟩
abbrev main_call3_call1_v14 : Ref sig .tc := ⟨.hbm, 197, rfl⟩
abbrev main_call3_call1_cst : Ref sig .tc := ⟨.hbm, 198, rfl⟩
abbrev main_call3_call1_v15 : Ref sig .tc := ⟨.hbm, 199, rfl⟩
abbrev main_call3_v12 : Ref sig .tc := ⟨.hbm, 200, rfl⟩
abbrev main_call3_v13 : Ref sig .tc := ⟨.hbm, 201, rfl⟩
abbrev main_call3_v14 : Ref sig .tc := ⟨.hbm, 202, rfl⟩
abbrev main_call3_cst_1 : Ref sig .tc := ⟨.hbm, 203, rfl⟩
abbrev main_call3_v15 : Ref sig .tc := ⟨.hbm, 204, rfl⟩
abbrev main_call3_cst_2 : Ref sig .tc := ⟨.hbm, 205, rfl⟩
abbrev main_v9_1 : Ref sig .tc := ⟨.hbm, 206, rfl⟩
abbrev main_call3_v17 : Ref sig .tc := ⟨.hbm, 207, rfl⟩
abbrev main_v9_2 : Ref sig .tc := ⟨.hbm, 208, rfl⟩
abbrev main_v9_3 : Ref sig .tc := ⟨.hbm, 209, rfl⟩
abbrev main_v10 : Ref sig .tc := ⟨.hbm, 210, rfl⟩
abbrev main_call4_v0 : Ref sig .tc := ⟨.hbm, 211, rfl⟩
abbrev main_call4_cst : Ref sig .tc := ⟨.hbm, 212, rfl⟩
abbrev main_call4_v1 : Ref sig .tc := ⟨.hbm, 213, rfl⟩
abbrev main_call4_v2 : Ref sig .tc := ⟨.hbm, 214, rfl⟩
abbrev main_call4_v3 : Ref sig .tc := ⟨.hbm, 215, rfl⟩
abbrev main_call4_cst_0 : Ref sig .tc := ⟨.hbm, 216, rfl⟩
abbrev main_call4_v4 : Ref sig .tc := ⟨.hbm, 217, rfl⟩
abbrev main_call4_v5 : Ref sig .tc := ⟨.hbm, 218, rfl⟩
abbrev main_call4_v6 : Ref sig .tc := ⟨.hbm, 219, rfl⟩
abbrev main_call4_v7 : Ref sig .tc := ⟨.hbm, 220, rfl⟩
abbrev main_call4_v8 : Ref sig .tc := ⟨.hbm, 221, rfl⟩
abbrev main_call4_v9 : Ref sig .tc := ⟨.hbm, 222, rfl⟩
abbrev main_call4_v10 : Ref sig .tc := ⟨.hbm, 223, rfl⟩
abbrev main_call4_call0_v0 : Ref sig .tc := ⟨.hbm, 224, rfl⟩
abbrev main_call4_call0_cst : Ref sig .tc := ⟨.hbm, 225, rfl⟩
abbrev main_call4_call0_c : Ref sig .tc := ⟨.hbm, 226, rfl⟩
abbrev main_call4_call0_v1_0 : Ref sig .tc := ⟨.hbm, 227, rfl⟩
abbrev main_v11_0 : Ref sig .tc := ⟨.hbm, 228, rfl⟩
abbrev main_call4_call1_c : Ref sig .tc := ⟨.hbm, 229, rfl⟩
abbrev main_call4_call1_v0 : Ref sig .tc := ⟨.hbm, 230, rfl⟩
abbrev main_call4_call1_v1 : Ref sig .tc := ⟨.hbm, 231, rfl⟩
abbrev main_call4_call1_c_0 : Ref sig .tc := ⟨.hbm, 232, rfl⟩
abbrev main_call4_call1_v2 : Ref sig .tc := ⟨.hbm, 233, rfl⟩
abbrev main_call4_call1_v3 : Ref sig .tc := ⟨.hbm, 234, rfl⟩
abbrev main_call4_call1_v4 : Ref sig .tc := ⟨.hbm, 235, rfl⟩
abbrev main_call4_call1_v5 : Ref sig .tc := ⟨.hbm, 236, rfl⟩
abbrev main_call4_call1_c_1 : Ref sig .tc := ⟨.hbm, 237, rfl⟩
abbrev main_call4_call1_c_2 : Ref sig .tc := ⟨.hbm, 238, rfl⟩
abbrev main_call4_call1_v6 : Ref sig .tc := ⟨.hbm, 239, rfl⟩
abbrev main_call4_call1_v7 : Ref sig .tc := ⟨.hbm, 240, rfl⟩
abbrev main_call4_call1_v8 : Ref sig .tc := ⟨.hbm, 241, rfl⟩
abbrev main_call4_call1_v9 : Ref sig .tc := ⟨.hbm, 242, rfl⟩
abbrev main_call4_call1_v10 : Ref sig .tc := ⟨.hbm, 243, rfl⟩
abbrev main_call4_call1_v11 : Ref sig .tc := ⟨.hbm, 244, rfl⟩
abbrev main_call4_call1_c_3 : Ref sig .tc := ⟨.hbm, 245, rfl⟩
abbrev main_call4_call1_v12 : Ref sig .tc := ⟨.hbm, 246, rfl⟩
abbrev main_call4_call1_v13 : Ref sig .tc := ⟨.hbm, 247, rfl⟩
abbrev main_call4_call1_v14 : Ref sig .tc := ⟨.hbm, 248, rfl⟩
abbrev main_call4_call1_cst : Ref sig .tc := ⟨.hbm, 249, rfl⟩
abbrev main_call4_call1_v15 : Ref sig .tc := ⟨.hbm, 250, rfl⟩
abbrev main_call4_v12 : Ref sig .tc := ⟨.hbm, 251, rfl⟩
abbrev main_call4_v13 : Ref sig .tc := ⟨.hbm, 252, rfl⟩
abbrev main_call4_v14 : Ref sig .tc := ⟨.hbm, 253, rfl⟩
abbrev main_call4_cst_1 : Ref sig .tc := ⟨.hbm, 254, rfl⟩
abbrev main_call4_v15 : Ref sig .tc := ⟨.hbm, 255, rfl⟩
abbrev main_call4_cst_2 : Ref sig .tc := ⟨.hbm, 256, rfl⟩
abbrev main_v11_1 : Ref sig .tc := ⟨.hbm, 257, rfl⟩
abbrev main_call4_v17 : Ref sig .tc := ⟨.hbm, 258, rfl⟩
abbrev main_v11_2 : Ref sig .tc := ⟨.hbm, 259, rfl⟩
abbrev main_v11_3 : Ref sig .tc := ⟨.hbm, 260, rfl⟩
abbrev main_v12 : Ref sig .tc := ⟨.hbm, 261, rfl⟩
abbrev main_call5_v0 : Ref sig .tc := ⟨.hbm, 262, rfl⟩
abbrev main_call5_cst : Ref sig .tc := ⟨.hbm, 263, rfl⟩
abbrev main_call5_v1 : Ref sig .tc := ⟨.hbm, 264, rfl⟩
abbrev main_call5_v2 : Ref sig .tc := ⟨.hbm, 265, rfl⟩
abbrev main_call5_v3 : Ref sig .tc := ⟨.hbm, 266, rfl⟩
abbrev main_call5_cst_0 : Ref sig .tc := ⟨.hbm, 267, rfl⟩
abbrev main_call5_v4 : Ref sig .tc := ⟨.hbm, 268, rfl⟩
abbrev main_call5_v5 : Ref sig .tc := ⟨.hbm, 269, rfl⟩
abbrev main_call5_v6 : Ref sig .tc := ⟨.hbm, 270, rfl⟩
abbrev main_call5_v7 : Ref sig .tc := ⟨.hbm, 271, rfl⟩
abbrev main_call5_v8 : Ref sig .tc := ⟨.hbm, 272, rfl⟩
abbrev main_call5_v9 : Ref sig .tc := ⟨.hbm, 273, rfl⟩
abbrev main_call5_v10 : Ref sig .tc := ⟨.hbm, 274, rfl⟩
abbrev main_call5_call0_v0 : Ref sig .tc := ⟨.hbm, 275, rfl⟩
abbrev main_call5_call0_cst : Ref sig .tc := ⟨.hbm, 276, rfl⟩
abbrev main_call5_call0_c : Ref sig .tc := ⟨.hbm, 277, rfl⟩
abbrev main_call5_call0_v1_0 : Ref sig .tc := ⟨.hbm, 278, rfl⟩
abbrev main_v13_0 : Ref sig .tc := ⟨.hbm, 279, rfl⟩
abbrev main_call5_call1_c : Ref sig .tc := ⟨.hbm, 280, rfl⟩
abbrev main_call5_call1_v0 : Ref sig .tc := ⟨.hbm, 281, rfl⟩
abbrev main_call5_call1_v1 : Ref sig .tc := ⟨.hbm, 282, rfl⟩
abbrev main_call5_call1_c_0 : Ref sig .tc := ⟨.hbm, 283, rfl⟩
abbrev main_call5_call1_v2 : Ref sig .tc := ⟨.hbm, 284, rfl⟩
abbrev main_call5_call1_v3 : Ref sig .tc := ⟨.hbm, 285, rfl⟩
abbrev main_call5_call1_v4 : Ref sig .tc := ⟨.hbm, 286, rfl⟩
abbrev main_call5_call1_v5 : Ref sig .tc := ⟨.hbm, 287, rfl⟩
abbrev main_call5_call1_c_1 : Ref sig .tc := ⟨.hbm, 288, rfl⟩
abbrev main_call5_call1_c_2 : Ref sig .tc := ⟨.hbm, 289, rfl⟩
abbrev main_call5_call1_v6 : Ref sig .tc := ⟨.hbm, 290, rfl⟩
abbrev main_call5_call1_v7 : Ref sig .tc := ⟨.hbm, 291, rfl⟩
abbrev main_call5_call1_v8 : Ref sig .tc := ⟨.hbm, 292, rfl⟩
abbrev main_call5_call1_v9 : Ref sig .tc := ⟨.hbm, 293, rfl⟩
abbrev main_call5_call1_v10 : Ref sig .tc := ⟨.hbm, 294, rfl⟩
abbrev main_call5_call1_v11 : Ref sig .tc := ⟨.hbm, 295, rfl⟩
abbrev main_call5_call1_c_3 : Ref sig .tc := ⟨.hbm, 296, rfl⟩
abbrev main_call5_call1_v12 : Ref sig .tc := ⟨.hbm, 297, rfl⟩
abbrev main_call5_call1_v13 : Ref sig .tc := ⟨.hbm, 298, rfl⟩
abbrev main_call5_call1_v14 : Ref sig .tc := ⟨.hbm, 299, rfl⟩
abbrev main_call5_call1_cst : Ref sig .tc := ⟨.hbm, 300, rfl⟩
abbrev main_call5_call1_v15 : Ref sig .tc := ⟨.hbm, 301, rfl⟩
abbrev main_call5_v12 : Ref sig .tc := ⟨.hbm, 302, rfl⟩
abbrev main_call5_v13 : Ref sig .tc := ⟨.hbm, 303, rfl⟩
abbrev main_call5_v14 : Ref sig .tc := ⟨.hbm, 304, rfl⟩
abbrev main_call5_cst_1 : Ref sig .tc := ⟨.hbm, 305, rfl⟩
abbrev main_call5_v15 : Ref sig .tc := ⟨.hbm, 306, rfl⟩
abbrev main_call5_cst_2 : Ref sig .tc := ⟨.hbm, 307, rfl⟩
abbrev main_v13_1 : Ref sig .tc := ⟨.hbm, 308, rfl⟩
abbrev main_call5_v17 : Ref sig .tc := ⟨.hbm, 309, rfl⟩
abbrev main_v13_2 : Ref sig .tc := ⟨.hbm, 310, rfl⟩
abbrev main_v13_3 : Ref sig .tc := ⟨.hbm, 311, rfl⟩
abbrev main_v14 : Ref sig .tc := ⟨.hbm, 312, rfl⟩
abbrev main_call6_v0 : Ref sig .tc := ⟨.hbm, 313, rfl⟩
abbrev main_call6_cst : Ref sig .tc := ⟨.hbm, 314, rfl⟩
abbrev main_call6_v1 : Ref sig .tc := ⟨.hbm, 315, rfl⟩
abbrev main_call6_v2 : Ref sig .tc := ⟨.hbm, 316, rfl⟩
abbrev main_call6_v3 : Ref sig .tc := ⟨.hbm, 317, rfl⟩
abbrev main_call6_cst_0 : Ref sig .tc := ⟨.hbm, 318, rfl⟩
abbrev main_call6_v4 : Ref sig .tc := ⟨.hbm, 319, rfl⟩
abbrev main_call6_v5 : Ref sig .tc := ⟨.hbm, 320, rfl⟩
abbrev main_call6_v6 : Ref sig .tc := ⟨.hbm, 321, rfl⟩
abbrev main_call6_v7 : Ref sig .tc := ⟨.hbm, 322, rfl⟩
abbrev main_call6_v8 : Ref sig .tc := ⟨.hbm, 323, rfl⟩
abbrev main_call6_v9 : Ref sig .tc := ⟨.hbm, 324, rfl⟩
abbrev main_call6_v10 : Ref sig .tc := ⟨.hbm, 325, rfl⟩
abbrev main_call6_call0_v0 : Ref sig .tc := ⟨.hbm, 326, rfl⟩
abbrev main_call6_call0_cst : Ref sig .tc := ⟨.hbm, 327, rfl⟩
abbrev main_call6_call0_c : Ref sig .tc := ⟨.hbm, 328, rfl⟩
abbrev main_call6_call0_v1_0 : Ref sig .tc := ⟨.hbm, 329, rfl⟩
abbrev main_v15_0 : Ref sig .tc := ⟨.hbm, 330, rfl⟩
abbrev main_call6_call1_c : Ref sig .tc := ⟨.hbm, 331, rfl⟩
abbrev main_call6_call1_v0 : Ref sig .tc := ⟨.hbm, 332, rfl⟩
abbrev main_call6_call1_v1 : Ref sig .tc := ⟨.hbm, 333, rfl⟩
abbrev main_call6_call1_c_0 : Ref sig .tc := ⟨.hbm, 334, rfl⟩
abbrev main_call6_call1_v2 : Ref sig .tc := ⟨.hbm, 335, rfl⟩
abbrev main_call6_call1_v3 : Ref sig .tc := ⟨.hbm, 336, rfl⟩
abbrev main_call6_call1_v4 : Ref sig .tc := ⟨.hbm, 337, rfl⟩
abbrev main_call6_call1_v5 : Ref sig .tc := ⟨.hbm, 338, rfl⟩
abbrev main_call6_call1_c_1 : Ref sig .tc := ⟨.hbm, 339, rfl⟩
abbrev main_call6_call1_c_2 : Ref sig .tc := ⟨.hbm, 340, rfl⟩
abbrev main_call6_call1_v6 : Ref sig .tc := ⟨.hbm, 341, rfl⟩
abbrev main_call6_call1_v7 : Ref sig .tc := ⟨.hbm, 342, rfl⟩
abbrev main_call6_call1_v8 : Ref sig .tc := ⟨.hbm, 343, rfl⟩
abbrev main_call6_call1_v9 : Ref sig .tc := ⟨.hbm, 344, rfl⟩
abbrev main_call6_call1_v10 : Ref sig .tc := ⟨.hbm, 345, rfl⟩
abbrev main_call6_call1_v11 : Ref sig .tc := ⟨.hbm, 346, rfl⟩
abbrev main_call6_call1_c_3 : Ref sig .tc := ⟨.hbm, 347, rfl⟩
abbrev main_call6_call1_v12 : Ref sig .tc := ⟨.hbm, 348, rfl⟩
abbrev main_call6_call1_v13 : Ref sig .tc := ⟨.hbm, 349, rfl⟩
abbrev main_call6_call1_v14 : Ref sig .tc := ⟨.hbm, 350, rfl⟩
abbrev main_call6_call1_cst : Ref sig .tc := ⟨.hbm, 351, rfl⟩
abbrev main_call6_call1_v15 : Ref sig .tc := ⟨.hbm, 352, rfl⟩
abbrev main_call6_v12 : Ref sig .tc := ⟨.hbm, 353, rfl⟩
abbrev main_call6_v13 : Ref sig .tc := ⟨.hbm, 354, rfl⟩
abbrev main_call6_v14 : Ref sig .tc := ⟨.hbm, 355, rfl⟩
abbrev main_call6_cst_1 : Ref sig .tc := ⟨.hbm, 356, rfl⟩
abbrev main_call6_v15 : Ref sig .tc := ⟨.hbm, 357, rfl⟩
abbrev main_call6_cst_2 : Ref sig .tc := ⟨.hbm, 358, rfl⟩
abbrev main_v15_1 : Ref sig .tc := ⟨.hbm, 359, rfl⟩
abbrev main_call6_v17 : Ref sig .tc := ⟨.hbm, 360, rfl⟩
abbrev main_v15_2 : Ref sig .tc := ⟨.hbm, 361, rfl⟩
abbrev main_v15_3 : Ref sig .tc := ⟨.hbm, 362, rfl⟩
abbrev main_v16 : Ref sig .tc := ⟨.hbm, 363, rfl⟩
abbrev main_call7_v0 : Ref sig .tc := ⟨.hbm, 364, rfl⟩
abbrev main_call7_cst : Ref sig .tc := ⟨.hbm, 365, rfl⟩
abbrev main_call7_v1 : Ref sig .tc := ⟨.hbm, 366, rfl⟩
abbrev main_call7_v2 : Ref sig .tc := ⟨.hbm, 367, rfl⟩
abbrev main_call7_v3 : Ref sig .tc := ⟨.hbm, 368, rfl⟩
abbrev main_call7_cst_0 : Ref sig .tc := ⟨.hbm, 369, rfl⟩
abbrev main_call7_v4 : Ref sig .tc := ⟨.hbm, 370, rfl⟩
abbrev main_call7_v5 : Ref sig .tc := ⟨.hbm, 371, rfl⟩
abbrev main_call7_v6 : Ref sig .tc := ⟨.hbm, 372, rfl⟩
abbrev main_call7_v7 : Ref sig .tc := ⟨.hbm, 373, rfl⟩
abbrev main_call7_v8 : Ref sig .tc := ⟨.hbm, 374, rfl⟩
abbrev main_call7_v9 : Ref sig .tc := ⟨.hbm, 375, rfl⟩
abbrev main_call7_v10 : Ref sig .tc := ⟨.hbm, 376, rfl⟩
abbrev main_call7_call0_v0 : Ref sig .tc := ⟨.hbm, 377, rfl⟩
abbrev main_call7_call0_cst : Ref sig .tc := ⟨.hbm, 378, rfl⟩
abbrev main_call7_call0_c : Ref sig .tc := ⟨.hbm, 379, rfl⟩
abbrev main_call7_call0_v1_0 : Ref sig .tc := ⟨.hbm, 380, rfl⟩
abbrev main_v17_0 : Ref sig .tc := ⟨.hbm, 381, rfl⟩
abbrev main_call7_call1_c : Ref sig .tc := ⟨.hbm, 382, rfl⟩
abbrev main_call7_call1_v0 : Ref sig .tc := ⟨.hbm, 383, rfl⟩
abbrev main_call7_call1_v1 : Ref sig .tc := ⟨.hbm, 384, rfl⟩
abbrev main_call7_call1_c_0 : Ref sig .tc := ⟨.hbm, 385, rfl⟩
abbrev main_call7_call1_v2 : Ref sig .tc := ⟨.hbm, 386, rfl⟩
abbrev main_call7_call1_v3 : Ref sig .tc := ⟨.hbm, 387, rfl⟩
abbrev main_call7_call1_v4 : Ref sig .tc := ⟨.hbm, 388, rfl⟩
abbrev main_call7_call1_v5 : Ref sig .tc := ⟨.hbm, 389, rfl⟩
abbrev main_call7_call1_c_1 : Ref sig .tc := ⟨.hbm, 390, rfl⟩
abbrev main_call7_call1_c_2 : Ref sig .tc := ⟨.hbm, 391, rfl⟩
abbrev main_call7_call1_v6 : Ref sig .tc := ⟨.hbm, 392, rfl⟩
abbrev main_call7_call1_v7 : Ref sig .tc := ⟨.hbm, 393, rfl⟩
abbrev main_call7_call1_v8 : Ref sig .tc := ⟨.hbm, 394, rfl⟩
abbrev main_call7_call1_v9 : Ref sig .tc := ⟨.hbm, 395, rfl⟩
abbrev main_call7_call1_v10 : Ref sig .tc := ⟨.hbm, 396, rfl⟩
abbrev main_call7_call1_v11 : Ref sig .tc := ⟨.hbm, 397, rfl⟩
abbrev main_call7_call1_c_3 : Ref sig .tc := ⟨.hbm, 398, rfl⟩
abbrev main_call7_call1_v12 : Ref sig .tc := ⟨.hbm, 399, rfl⟩
abbrev main_call7_call1_v13 : Ref sig .tc := ⟨.hbm, 400, rfl⟩
abbrev main_call7_call1_v14 : Ref sig .tc := ⟨.hbm, 401, rfl⟩
abbrev main_call7_call1_cst : Ref sig .tc := ⟨.hbm, 402, rfl⟩
abbrev main_call7_call1_v15 : Ref sig .tc := ⟨.hbm, 403, rfl⟩
abbrev main_call7_v12 : Ref sig .tc := ⟨.hbm, 404, rfl⟩
abbrev main_call7_v13 : Ref sig .tc := ⟨.hbm, 405, rfl⟩
abbrev main_call7_v14 : Ref sig .tc := ⟨.hbm, 406, rfl⟩
abbrev main_call7_cst_1 : Ref sig .tc := ⟨.hbm, 407, rfl⟩
abbrev main_call7_v15 : Ref sig .tc := ⟨.hbm, 408, rfl⟩
abbrev main_call7_cst_2 : Ref sig .tc := ⟨.hbm, 409, rfl⟩
abbrev main_v17_1 : Ref sig .tc := ⟨.hbm, 410, rfl⟩
abbrev main_call7_v17 : Ref sig .tc := ⟨.hbm, 411, rfl⟩
abbrev main_v17_2 : Ref sig .tc := ⟨.hbm, 412, rfl⟩
abbrev main_v17_3 : Ref sig .tc := ⟨.hbm, 413, rfl⟩
abbrev main_v18 : Ref sig .tc := ⟨.hbm, 414, rfl⟩
abbrev main_v19 : Ref sig .tc := ⟨.hbm, 415, rfl⟩
abbrev main_v20 : Ref sig .tc := ⟨.hbm, 416, rfl⟩
abbrev main_v21 : Ref sig .tc := ⟨.hbm, 417, rfl⟩
abbrev main_v22 : Ref sig .tc := ⟨.hbm, 418, rfl⟩
abbrev main_v23 : Ref sig .tc := ⟨.hbm, 419, rfl⟩
abbrev main_v24 : Ref sig .tc := ⟨.hbm, 420, rfl⟩
abbrev main_v25 : Ref sig .tc := ⟨.hbm, 421, rfl⟩
abbrev main_v26 : Ref sig .tc := ⟨.hbm, 422, rfl⟩
abbrev main_v27 : Ref sig .tc := ⟨.hbm, 423, rfl⟩
abbrev main_v28 : Ref sig .tc := ⟨.hbm, 424, rfl⟩
abbrev main_v29 : Ref sig .tc := ⟨.hbm, 425, rfl⟩
abbrev main_v30 : Ref sig .tc := ⟨.hbm, 426, rfl⟩
abbrev main_v31 : Ref sig .tc := ⟨.hbm, 427, rfl⟩
abbrev main_v32 : Ref sig .tc := ⟨.hbm, 428, rfl⟩
abbrev main_v33 : Ref sig .tc := ⟨.hbm, 429, rfl⟩
abbrev main_v34 : Ref sig .tc := ⟨.hbm, 430, rfl⟩
abbrev main_v35 : Ref sig .tc := ⟨.hbm, 431, rfl⟩
abbrev main_v36 : Ref sig .tc := ⟨.hbm, 432, rfl⟩

abbrev nD : Nat := 1
abbrev τ : Topo := Topo.v7x

variable {F : FTy → Type} [FloatOps F]
-- ==== Proof.RealSums.lean ====
/-
  Sums and products of real numbers read in the extended reals.
-/
module

public import Idealize.ShloMosaic.Lib.Pointwise

@[expose] public section

namespace Cert.RealSums

open Idealize.ShloMosaic

/-- A finite sum of reals is the same sum in the extended reals. -/
theorem coe_sum {ι : Type*} (s : Finset ι) (f : ι → ℝ) : ((∑ i ∈ s, f i : ℝ) : EReal) = ∑ i ∈ s, ((f i : ℝ) : EReal) :=
  map_sum (⟨⟨Real.toEReal, EReal.coe_zero⟩, EReal.coe_add⟩ : ℝ →+ EReal) f s

/-- The constant 2. -/
theorem ofBits_two : Ideal.ofBits .f32 0x40000000#32 = ((2 : ℝ) : EReal) := by
  simp [Ideal.ofBits, Ideal.ieee]; rw [← EReal.coe_mul]; norm_num
/-- The constant -2. -/
theorem ofBits_neg_two : Ideal.ofBits .f32 0xC0000000#32 = ((-2 : ℝ) : EReal) := by
  simp [Ideal.ofBits, Ideal.ieee]; rw [← EReal.coe_mul]; norm_num
/-- The constant 1048576. -/
theorem ofBits_count : Ideal.ofBits .f32 0x49800000#32 = ((1048576 : ℝ) : EReal) := by
  simp [Ideal.ofBits, Ideal.ieee]; rw [← EReal.coe_mul]; norm_num
/-- The constant +∞. -/
theorem ofBits_inf : Ideal.ofBits .f32 0x7F800000#32 = ⊤ := by
  simp [Ideal.ofBits, Ideal.ieee]

end Cert.RealSums
-- ==== Proof.Finite.lean ====
/-
  The precondition `finite`, read at the ideal instance: where it holds, every element of the two arguments is a real.
-/
module

public import proofs.«01_k».proof.Pre_finite
public import proofs.«01_k».proof.Proof.RealSums
public import Idealize.ShloMosaic.Lib.ReduceAll
public import Idealize.ShloMosaic.Lib.Pointwise

@[expose] public section

noncomputable section

namespace Cert.Finite

open Idealize.ShloMosaic Cert.Pre_finite Cert.RealSums Facts

/-- An extended real with a size below infinity is a real. -/
theorem real_of_abs_lt {x : EReal} (h : max x (-x) < ⊤) : x = ((x.toReal : ℝ) : EReal) := by
  refine (EReal.coe_toReal (fun e => ?_) (fun e => ?_)).symm <;> · subst e; simp at h

/-- A comparison "size below infinity" that says yes is of a real. -/
theorem real_of_cmp {x : Ideal .f32}
    (h : FloatOps.cmpf .olt (FloatOps.hostAbsf x) (FloatOps.ofBits (F := Ideal) .f32 0x7F800000#32) = 1#1) :
    x = (((x : EReal).toReal : ℝ) : EReal) := by
  refine real_of_abs_lt ?_
  have h' : Ideal.cmp .olt (max (x : EReal) (-x)) (Ideal.ofBits .f32 0x7F800000#32) = 1#1 := h
  rw [ofBits_inf] at h'
  exact (Ideal.cmp_olt_eq_one _ _).mp h'

/-- Where `finite` holds, the elements of both arguments are reals. -/
theorem reals [Pre_finite.Facts] {x : FVec Ideal S32x1024x32 .f32} {c : FVec Ideal S8192x32 .f32}
    (h : Pre_finite.fn (F := Ideal) x c = fun _ => 1#1) :
    (∀ i, x i = (((x i : EReal).toReal : ℝ) : EReal)) ∧ ∀ i, c i = (((c i : EReal).toReal : ℝ) : EReal) := by
  haveI : Subsingleton S_.Idx := ⟨fun a b => funext fun k => k.elim0⟩
  have h0 := congrFun h (fun a => a.elim0)
  dsimp only [Pre_finite.fn] at h0
  have h1 := (by decide : ∀ a b : BitVec 1, IntOp.andi a b = 1#1 → a = 1#1 ∧ b = 1#1) _ _ h0
  exact ⟨fun i => real_of_cmp (Host.reduce_andi_all _ _ _ _ _ h1.1 i), fun i => real_of_cmp (Host.reduce_andi_all _ _ _ _ _ h1.2 i)⟩

end Cert.Finite
-- ==== Proof.Model.lean ====
/-
  Residual quantization over the real numbers: a token is a vector of 32 reals; each pass subtracts from it the codebook
  row nearest to it, the first one where several are nearest. Kernel and reference are both shown to compute this.
-/
module

public import Mathlib.Data.Real.Basic
public import Mathlib.Algebra.BigOperators.Fin
public import Mathlib.Order.Fin.Basic
public import Mathlib.Data.Finset.Max
public import Mathlib.Tactic.Linarith

@[expose] public section

noncomputable section

namespace Cert.Model

/-- The squared distance of a token to a row, as both programs expand it. -/
def dist (c : Fin 8192 → Fin 32 → ℝ) (v : Fin 32 → ℝ) (k : Fin 8192) : ℝ :=
  (∑ i, v i * v i - 2 * ∑ i, v i * c k i) + ∑ i, c k i * c k i

/-- `b` is the first of the places where `d` is smallest. -/
def FirstMin (d : Fin 8192 → ℝ) (b : Fin 8192) : Prop := (∀ k, d b ≤ d k) ∧ ∀ k, k < b → d b < d k

theorem FirstMin.unique {d : Fin 8192 → ℝ} {a b : Fin 8192} (ha : FirstMin d a) (hb : FirstMin d b) : a = b := by
  rcases lt_trichotomy a b with h | h | h
  · exact absurd (hb.2 a h) (not_lt.mpr (ha.1 b))
  · exact h
  · exact absurd (ha.2 b h) (not_lt.mpr (hb.1 a))

theorem exists_firstMin (d : Fin 8192 → ℝ) : ∃ b, FirstMin d b := by
  classical
  obtain ⟨m, -, hm⟩ := Finset.exists_min_image Finset.univ d ⟨0, Finset.mem_univ _⟩
  have hne : (Finset.univ.filter fun k => d k = d m).Nonempty := ⟨m, by simp⟩
  have hb := Finset.min'_mem _ hne
  refine ⟨(Finset.univ.filter fun k => d k = d m).min' hne, fun k => ?_, fun k hk => ?_⟩
  · rw [(Finset.mem_filter.mp hb).2]; exact hm k (Finset.mem_univ _)
  · rw [(Finset.mem_filter.mp hb).2]
    refine lt_of_le_of_ne (hm k (Finset.mem_univ _)) fun e => ?_
    exact absurd (Finset.min'_le _ k (by simp [e])) (not_le.mpr hk)

/-- The first nearest row of a token. -/
def best (c : Fin 8192 → Fin 32 → ℝ) (v : Fin 32 → ℝ) : Fin 8192 := (exists_firstMin (dist c v)).choose

theorem best_firstMin (c : Fin 8192 → Fin 32 → ℝ) (v : Fin 32 → ℝ) : FirstMin (dist c v) (best c v) :=
  (exists_firstMin (dist c v)).choose_spec

/-- One pass: the token minus its nearest row. -/
def step (c : Fin 8192 → Fin 32 → ℝ) (v : Fin 32 → ℝ) : Fin 32 → ℝ := fun i => v i - c (best c v) i

/-- The token after `q` passes. -/
def resid (c : Fin 8192 → Fin 32 → ℝ) (v : Fin 32 → ℝ) : ℕ → Fin 32 → ℝ
  | 0 => v
  | q + 1 => step c (resid c v q)

/-- The mean square over all tokens of the residuals after `q + 1` passes. -/
def meanSquare (w : Fin 8192 → Fin 32 → ℝ) (v : Fin 32 → Fin 1024 → Fin 32 → ℝ) (q : ℕ) : ℝ :=
  (∑ b, ∑ n, ∑ i, resid w (v b n) (q + 1) i * resid w (v b n) (q + 1) i) / 1048576

end Cert.Model
-- ==== Proof.KerStep.lean ====
/-
  One quantizer of the kernel on a block of 256 tokens. `next` is the kernel's text for it: the scores of all the codebook's
  rows (`score`), the first row of the least score (`firstK`), and the residual less that row, fetched by multiplying a
  one-hot row with the codebook. On real blocks the scores are the model's distances, the row found is the model's best row,
  and the new residual is the model's (`score_apply`, `firstK_apply`, `next_apply`).
-/
module

public import proofs.«01_k».proof.Proof.Gen.KernelIdeal.Skeleton
public import proofs.«01_k».proof.Proof.Model
public import proofs.«01_k».proof.Proof.RealSums
public import Idealize.ShloMosaic.Lib.Pointwise
public import Idealize.ShloMosaic.Lib.StableHlo.Predicate

@[expose] public section

noncomputable section

namespace Cert.KernelIdeal.Val

open Idealize.ShloMosaic Idealize.ShloMosaic.StableHlo Cert.Model Cert.RealSums
open Facts₀ Facts

/-! ## The kernel's text, once for all eight quantizers -/

section Text
variable {F : FTy → Type} [FloatOps F]

/-- The numbers of the codebook's rows, along every row of the block. -/
def rowsK : IVec S256x8192 32 := iota .tc S256x8192 32 [1] iota_S256x8192_d1_w32

/-- `-2 r`. -/
def minusTwice (r : FVec F S256x32 .f32) : FVec F S256x32 .f32 :=
  mulf (broadcast S256x32 (Scalar.ofBits .f32 0xC0000000#32)) r

/-- `(-2 r)` times the transposed codebook. -/
def prodK (d : FVec F S256x32 .f32) (cbt : FVec F S32x8192 .f32) : FVec F S256x8192 .f32 :=
  matmul dot_S256x32_S32x8192_S256x8192_1_0_0_1_n_n none d (shapeCast S32x8192 cbt shapeCasts_S32x8192_S32x8192)
    (constant S256x8192 .f32 0x00000000#32)

/-- The sum of every token's squares `sq`, along its row. -/
def normK (sq : FVec F S256x32 .f32) : FVec F S256x8192 .f32 :=
  broadcastTo S256x8192 (shapeCast S256x1
    (multiReduction .add [1] S256 sq 0x00000000#32 reduces_S256x32_S256 (.inl rfl) rfl) shapeCasts_S256_S256x1)
    broadcasts_S256x1_S256x8192

/-- The scores, from the product, the tokens' squared lengths and the rows' squared lengths. -/
def scoreK (p n : FVec F S256x8192 .f32) (csq : FVec F S1x8192 .f32) : FVec F S256x8192 .f32 :=
  addf (addf n p) (broadcastTo S256x8192 (shapeCast S1x8192 csq shapeCasts_S1x8192_S1x8192) broadcasts_S1x8192_S256x8192)

def score (r : FVec F S256x32 .f32) (cbt : FVec F S32x8192 .f32) (csq : FVec F S1x8192 .f32) : FVec F S256x8192 .f32 :=
  scoreK (prodK (minusTwice r) cbt) (normK (mulf r r)) csq

/-- The first row at which a token's score is least. -/
def firstK (s : FVec F S256x8192 .f32) : IVec S256x1 32 :=
  shapeCast S256x1 (multiReductionI .minsi [1] S256
    (select (cmpf .oeq s (broadcastTo S256x8192 (shapeCast S256x1
        (multiReduction .minimumf [1] S256 s 0x7F800000#32 reduces_S256x8192_S256 (.inl rfl) rfl)
        shapeCasts_S256_S256x1) broadcasts_S256x1_S256x8192))
      rowsK (broadcast S256x8192 8192#32))
    2147483647#32 reduces_S256x8192_S256 rfl) shapeCasts_S256_S256x1

/-- The residual less the row that the scores select. -/
def nextK (r : FVec F S256x32 .f32) (s : FVec F S256x8192 .f32) (cb : FVec F S8192x32 .f32) : FVec F S256x32 .f32 :=
  subf r (matmul dot_S256x8192_S8192x32_S256x32_1_0_0_1_n_n (some .fp32)
    (sitofp .f32 (extui 32 (cmpi .eq rowsK (broadcastTo S256x8192 (firstK s) broadcasts_S256x1_S256x8192)) natLt_1_32))
    cb (constant S256x32 .f32 0x00000000#32))

/-- The block's residuals after `q` quantizers. -/
def residK (r : FVec F S256x32 .f32) (cbt : FVec F S32x8192 .f32) (csq : FVec F S1x8192 .f32) (cb : FVec F S8192x32 .f32) :
    ℕ → FVec F S256x32 .f32
  | 0 => r
  | q + 1 => nextK (residK r cbt csq cb q) (score (residK r cbt csq cb q) cbt csq) cb

/-- What is stored of the rows found: they pass through a flat vector. -/
def colK (i : IVec S256x1 32) : IVec S256x1 32 :=
  shapeCast S256x1 (shapeCast S256 i shapeCasts_S256x1_S256) shapeCasts_S256_S256x1

/-- What is stored of a residual: a slab of one step. -/
def slabK (r : FVec F S256x32 .f32) : FVec F S256x1x32 .f32 := shapeCast S256x1x32 r shapeCasts_S256x32_S256x1x32

end Text

variable {r : FVec Ideal S256x32 .f32} {cbt : FVec Ideal S32x8192 .f32} {csq : FVec Ideal S1x8192 .f32}
  {cb : FVec Ideal S8192x32 .f32} {v : Fin 256 → Fin 32 → ℝ} {w : Fin 8192 → Fin 32 → ℝ}

/-- The smaller of two small row numbers, as words. -/
theorem minsi_ofNat {a b : ℕ} (ha : a < 2 ^ 31) (hb : b < 2 ^ 31) :
    IntOp.minsi (BitVec.ofNat 32 a) (BitVec.ofNat 32 b) = BitVec.ofNat 32 (min a b) := by
  unfold IntOp.minsi
  have h := Predicate.slt_ofNat_iff a b ha hb
  rw [Predicate.ofBool_eq_one_iff] at h
  by_cases hab : a < b
  · rw [if_pos (h.mpr hab), min_eq_left hab.le]
  · rw [if_neg (fun e => hab (h.mp e)), min_eq_right (by omega)]

/-- The least of small words is the word of the least number. -/
theorem fold_minsi {f : Fin 8192 → BitVec 32} {g : Fin 8192 → ℕ} (hf : ∀ k, f k = BitVec.ofNat 32 (g k))
    (hg : ∀ k, g k < 2 ^ 31) (S : Finset (Fin 8192)) :
    Finset.fold IntOp.minsi 2147483647#32 f S = BitVec.ofNat 32 (Finset.fold min 2147483647 g S)
      ∧ Finset.fold min 2147483647 g S < 2 ^ 31 := by
  classical
  induction S using Finset.induction_on with
  | empty => exact ⟨rfl, by simp⟩
  | insert k S hk ih =>
    rw [Finset.fold_insert hk, Finset.fold_insert hk, hf, ih.1, minsi_ofNat (hg k) ih.2]
    exact ⟨rfl, (min_le_left _ _).trans_lt (hg k)⟩

/-- The least of finitely many real numbers, taken from `+∞`. -/
theorem fold_min_coe {D : Fin 8192 → ℝ} {m : Fin 8192} (hm : FirstMin D m) :
    Finset.fold min (⊤ : EReal) (fun k => ((D k : ℝ) : EReal)) Finset.univ = ((D m : ℝ) : EReal) :=
  le_antisymm ((Finset.fold_min_le _).mpr (.inr ⟨m, Finset.mem_univ _, le_rfl⟩))
    ((Finset.le_fold_min _).mpr ⟨le_top, fun k _ => EReal.coe_le_coe_iff.mpr (hm.1 k)⟩)

theorem score_apply (hr : ∀ t i, r (ix2 t i) = ((v t i : ℝ) : EReal)) (ht : ∀ k i, cbt (ix2 i k) = ((w k i : ℝ) : EReal))
    (hs : ∀ k, csq (ix2 0 k) = ((∑ i, w k i * w k i : ℝ) : EReal)) (t : Fin 256) (k : Fin 8192) :
    score r cbt csq (ix2 t k) = ((Model.dist w (v t) k : ℝ) : EReal) := by
  pointwise [score, scoreK, prodK, normK, minusTwice]
  simp only [hr, ht, hs, ofBits_neg_two, ← EReal.coe_mul, ← coe_sum, ← EReal.coe_add]
  congr 1
  simp only [Model.dist, mul_assoc, ← Finset.mul_sum]
  ring

theorem firstK_apply {s : FVec Ideal S256x8192 .f32} {D : Fin 256 → Fin 8192 → ℝ}
    (hs : ∀ t k, s (ix2 t k) = ((D t k : ℝ) : EReal)) (t : Fin 256) {m : Fin 8192} (hm : FirstMin (D t) m) (z : Fin 1) :
    firstK s (ix2 t z) = BitVec.ofNat 32 m.val := by
  pointwise [firstK, rowsK]
  simp only [hs, ofBits_inf, fold_min_coe hm, EReal.coe_eq_coe_iff]
  rw [(fold_minsi (g := fun k => if D t k = D t m then k.val else 8192) (fun k => by split <;> rfl)
    (fun k => by split <;> omega) Finset.univ).1]
  refine congrArg (BitVec.ofNat 32) ?_
  refine le_antisymm ((Finset.fold_min_le _).mpr (.inr ⟨m, Finset.mem_univ _, by simp⟩))
    ((Finset.le_fold_min _).mpr ⟨by omega, fun k _ => ?_⟩)
  split
  · next e => exact not_lt.mp fun hk => absurd e (hm.2 k hk).ne'
  · omega

/-- The one-hot weight of a row. -/
theorem weight (k m : Fin 8192) :
    (FloatOps.sitofp FTy.f32 (BitVec.setWidth 32 (IntOp.cmpi .eq (BitVec.ofNat 32 k.val) (BitVec.ofNat 32 m.val)))
      : Ideal .f32) = if k = m then (1 : EReal) else 0 := by
  have h : IntOp.cmpi .eq (BitVec.ofNat 32 k.val) (BitVec.ofNat 32 m.val) = if k = m then 1#1 else 0#1 := by
    split
    · next e => subst e; exact Predicate.cmpi_eq_iff.mpr rfl
    · next e =>
      refine (BitVec.eq_zero_or_eq_one _).resolve_right fun h1 => e (Fin.ext ?_)
      have := congrArg BitVec.toNat (Predicate.cmpi_eq_iff.mp h1)
      simp only [BitVec.toNat_ofNat] at this
      omega
  rw [h]
  split
  · show ((((BitVec.setWidth 32 1#1).toInt : ℤ) : ℝ) : EReal) = 1
    simp
  · show ((((BitVec.setWidth 32 0#1).toInt : ℤ) : ℝ) : EReal) = 0
    simp

theorem nextK_apply {s : FVec Ideal S256x8192 .f32} {t : Fin 256} {m : Fin 8192}
    (hm : firstK s (ix2 t 0) = BitVec.ofNat 32 m.val) (i : Fin 32) :
    nextK r s cb (ix2 t i) = r (ix2 t i) - cb (ix2 m i) := by
  pointwise [nextK, rowsK]
  rw [hm]
  simp only [weight, ite_mul, one_mul, zero_mul, Finset.sum_ite_eq', Finset.mem_univ, if_true]

/-- The block's residuals are the model's. -/
theorem residK_apply (hr : ∀ t i, r (ix2 t i) = ((v t i : ℝ) : EReal)) (ht : ∀ k i, cbt (ix2 i k) = ((w k i : ℝ) : EReal))
    (hs : ∀ k, csq (ix2 0 k) = ((∑ i, w k i * w k i : ℝ) : EReal)) (hc : ∀ k i, cb (ix2 k i) = ((w k i : ℝ) : EReal))
    (q : ℕ) : ∀ t i, residK r cbt csq cb q (ix2 t i) = ((resid w (v t) q i : ℝ) : EReal) := by
  induction q with
  | zero => exact hr
  | succ q ih =>
    intro t i
    have hf := firstK_apply (score_apply ih ht hs) t (best_firstMin w (resid w (v t) q)) 0
    refine (nextK_apply hf i).trans ?_
    rw [ih, hc, ← EReal.coe_sub]; rfl

/-- The row found by quantizer `q` is the model's. -/
theorem foundK_apply (hr : ∀ t i, r (ix2 t i) = ((v t i : ℝ) : EReal)) (ht : ∀ k i, cbt (ix2 i k) = ((w k i : ℝ) : EReal))
    (hs : ∀ k, csq (ix2 0 k) = ((∑ i, w k i * w k i : ℝ) : EReal)) (hc : ∀ k i, cb (ix2 k i) = ((w k i : ℝ) : EReal))
    (q : ℕ) (t : Fin 256) : firstK (score (residK r cbt csq cb q) cbt csq) (ix2 t 0)
      = BitVec.ofNat 32 (best w (resid w (v t) q)).val :=
  firstK_apply (score_apply (residK_apply hr ht hs hc q) ht hs) t (best_firstMin w (resid w (v t) q)) 0

theorem colK_apply (i : IVec S256x1 32) (t : Fin 256) (z : Fin 1) : colK i (ix2 t z) = i (ix2 t 0) := by
  obtain rfl : z = 0 := Subsingleton.elim _ _
  pointwise [colK]

theorem slabK_apply (t : Fin 256) (z : Fin 1) (i : Fin 32) : slabK r (ix3 t z i) = r (ix2 t i) := by
  pointwise [slabK]

end Cert.KernelIdeal.Val
-- ==== Proof.KerBlock.lean ====
/-
  What the kernel's body leaves in its two output blocks. The generated frame names the sixteen stored vectors through
  payloads cut at arbitrary lines; here each is `residK`, `firstK`, `score` of the input blocks (`stored_rows`,
  `stored_steps`), so that on real blocks column `q` of the first output holds the model's row numbers and step `q` of the
  second the model's residuals (`rows_model`, `steps_model`).
-/
module

public import proofs.«01_k».proof.Proof.Gen.KernelIdeal.Frame
public import proofs.«01_k».proof.Proof.KerStep
public import Idealize.ShloMosaic.Lib.Pipeline.Value

@[expose] public section

set_option maxRecDepth 16384

noncomputable section

namespace Cert.KernelIdeal.Val

open Idealize.ShloMosaic Cert.KernelIdeal.Gen Cert.Model
open Facts₀ Facts

section Text
variable {F : FTy → Type} [FloatOps F]

/-- The row numbers stored by quantizer `q`. -/
def foundK (x : FVec F S256x32 .f32) (cbt : FVec F S32x8192 .f32) (csq : FVec F S1x8192 .f32) (cb : FVec F S8192x32 .f32)
    (q : ℕ) : IVec S256x1 32 := firstK (score (residK x cbt csq cb q) cbt csq)

variable (x : FVec F S256x32 .f32) (cbt : FVec F S32x8192 .f32) (csq : FVec F S1x8192 .f32) (cb : FVec F S8192x32 .f32)
  (r : FVec F S256x32 .f32)

/-! ## The payloads, one by one -/

theorem pay6_eq : k0_pay6 x cbt csq cb = nextK (k0_pay4 x) (score (k0_pay4 x) cbt csq) cb := rfl
theorem pay7_eq : k0_pay7 x cbt csq = colK (firstK (score (k0_pay4 x) cbt csq)) := rfl
theorem pay10_eq : k0_pay10 rowsK r cbt csq cb = nextK r (score r cbt csq) cb := rfl
theorem pay11_eq : k0_pay11 rowsK r cbt csq = colK (firstK (score r cbt csq)) := rfl
theorem pay12_eq : k0_pay12 rowsK r cbt csq cb = slabK (nextK r (score r cbt csq) cb) := rfl
theorem pay15_eq : k0_pay15 rowsK r k0_pay13 cbt csq cb = nextK r (score r cbt csq) cb := rfl
theorem pay16_eq : k0_pay16 rowsK r k0_pay13 cbt csq = colK (firstK (score r cbt csq)) := rfl
theorem pay17_eq : k0_pay17 rowsK r k0_pay13 cbt csq cb = slabK (nextK r (score r cbt csq) cb) := rfl
theorem pay18_eq : k0_pay18 rowsK r k0_pay13 cbt csq cb = minusTwice (nextK r (score r cbt csq) cb) := rfl
theorem pay20_eq : k0_pay20 rowsK r (minusTwice r) cbt csq cb = nextK r (score r cbt csq) cb := rfl
theorem pay21_eq : k0_pay21 rowsK r (minusTwice r) cbt csq = colK (firstK (score r cbt csq)) := rfl
theorem pay22_eq : k0_pay22 rowsK r (minusTwice r) cbt csq cb = slabK (nextK r (score r cbt csq) cb) := rfl
theorem pay23_eq : k0_pay23 rowsK r (minusTwice r) cbt csq cb cbt = prodK (minusTwice (nextK r (score r cbt csq) cb)) cbt := rfl
theorem pay24_eq : k0_pay24 rowsK r (minusTwice r) cbt csq cb
    = mulf (nextK r (score r cbt csq) cb) (nextK r (score r cbt csq) cb) := rfl
theorem pay26_eq : k0_pay26 rowsK r (prodK (minusTwice r) cbt) (mulf r r) csq cb = nextK r (score r cbt csq) cb := rfl
theorem pay27_eq : k0_pay27 rowsK (prodK (minusTwice r) cbt) (mulf r r) csq = colK (firstK (score r cbt csq)) := rfl
theorem pay28_eq : k0_pay28 rowsK r (prodK (minusTwice r) cbt) (mulf r r) csq cb = slabK (nextK r (score r cbt csq) cb) := rfl
theorem pay29_eq : k0_pay29 rowsK r (prodK (minusTwice r) cbt) (mulf r r) csq cb cbt
    = prodK (minusTwice (nextK r (score r cbt csq) cb)) cbt := rfl
theorem pay30_eq : k0_pay30 rowsK r (prodK (minusTwice r) cbt) (mulf r r) csq cb
    = normK (mulf (nextK r (score r cbt csq) cb) (nextK r (score r cbt csq) cb)) := rfl
theorem pay32_eq : k0_pay32 rowsK r (prodK (minusTwice r) cbt) (normK (mulf r r)) csq cb = nextK r (score r cbt csq) cb := rfl
theorem pay33_eq : k0_pay33 rowsK (prodK (minusTwice r) cbt) (normK (mulf r r)) csq = colK (firstK (score r cbt csq)) := rfl
theorem pay34_eq : k0_pay34 rowsK r (prodK (minusTwice r) cbt) (normK (mulf r r)) csq cb
    = slabK (nextK r (score r cbt csq) cb) := rfl

/-- The scores without the rows' squared lengths. -/
def halfK : FVec F S256x8192 .f32 := addf (normK (mulf r r)) (prodK (minusTwice r) cbt)

theorem pay35_eq : k0_pay35 rowsK r (prodK (minusTwice r) cbt) (normK (mulf r r)) csq cb cbt
    = halfK cbt (nextK r (score r cbt csq) cb) := rfl
theorem pay37_eq : k0_pay37 rowsK r (halfK cbt r) csq cb = nextK r (score r cbt csq) cb := rfl
theorem pay38_eq : k0_pay38 rowsK (halfK cbt r) csq = colK (firstK (score r cbt csq)) := rfl
theorem pay39_eq : k0_pay39 rowsK r (halfK cbt r) csq cb = slabK (nextK r (score r cbt csq) cb) := rfl
theorem pay40_eq : k0_pay40 rowsK r (halfK cbt r) csq cb cbt csq = score (nextK r (score r cbt csq) cb) cbt csq := rfl
theorem pay2_eq : k0_pay2 rowsK (score r cbt csq) = colK (firstK (score r cbt csq)) := rfl
theorem pay3_eq : k0_pay3 rowsK r (score r cbt csq) cb = slabK (nextK r (score r cbt csq) cb) := rfl
theorem pay8_eq : k0_pay8 r = slabK r := rfl

/-- A residual after one more quantizer. -/
theorem residK_succ (q : ℕ) : nextK (residK x cbt csq cb q) (score (residK x cbt csq cb q) cbt csq) cb
    = residK x cbt csq cb (q + 1) := rfl

/-! ## The loads read whole blocks -/

theorem off_zero : (![0, 0] : Fin 2 → ℕ) = fun _ => 0 := funext fun a => match a with | ⟨0, _⟩ => rfl | ⟨1, _⟩ => rfl
theorem ld_x : View.ld (Val := Elt F) (e' := .f32) x r0_0 = x := View.ld_unit_zero (Val := Elt F) (e := .f32) off_zero _ x
theorem ld_cbt : View.ld (Val := Elt F) (e' := .f32) cbt r0_1 = cbt := View.ld_unit_zero (Val := Elt F) (e := .f32) off_zero _ cbt
theorem ld_csq : View.ld (Val := Elt F) (e' := .f32) csq r0_2 = csq := View.ld_unit_zero (Val := Elt F) (e := .f32) off_zero _ csq
theorem ld_cb : View.ld (Val := Elt F) (e' := .f32) cb r0_3 = cb := View.ld_unit_zero (Val := Elt F) (e := .f32) off_zero _ cb
theorem pay4_eq : k0_pay4 x = x := shapeCast_self _ _

/-! ## The values named between the payloads -/

theorem val41 : k0_pay41 x cbt cb csq = rowsK := rfl
theorem val42 : k0_pay42 x cbt cb csq = residK x cbt csq cb 1 := by
  unfold k0_pay42
  rw [ld_x, ld_cbt, ld_csq, ld_cb, pay6_eq, pay4_eq]; rfl
theorem val43 : k0_pay43 x cbt cb csq = residK x cbt csq cb 2 := by
  unfold k0_pay43
  rw [ld_cbt, ld_csq, ld_cb, val41, val42, pay10_eq, residK_succ]
theorem val45 : k0_pay45 x cbt cb csq = residK x cbt csq cb 3 := by
  unfold k0_pay45 k0_pay44
  rw [ld_cbt, ld_csq, ld_cb, val41, val43, pay15_eq, residK_succ]
theorem val46 : k0_pay46 x cbt cb csq = minusTwice (residK x cbt csq cb 3) := by
  unfold k0_pay46 k0_pay44
  rw [ld_cbt, ld_csq, ld_cb, val41, val43, pay18_eq, residK_succ]
theorem val47 : k0_pay47 x cbt cb csq = residK x cbt csq cb 4 := by
  unfold k0_pay47
  rw [ld_cbt, ld_csq, ld_cb, val41, val45, val46, pay20_eq, residK_succ]
theorem val48 : k0_pay48 x cbt cb csq = prodK (minusTwice (residK x cbt csq cb 4)) cbt := by
  unfold k0_pay48
  rw [ld_cbt, ld_csq, ld_cb, val41, val45, val46, pay23_eq, residK_succ]
theorem val49 : k0_pay49 x cbt cb csq = mulf (residK x cbt csq cb 4) (residK x cbt csq cb 4) := by
  unfold k0_pay49
  rw [ld_cbt, ld_csq, ld_cb, val41, val45, val46, pay24_eq, residK_succ]
theorem val50 : k0_pay50 x cbt cb csq = residK x cbt csq cb 5 := by
  unfold k0_pay50
  rw [ld_csq, ld_cb, val41, val47, val48, val49, pay26_eq, residK_succ]
theorem val51 : k0_pay51 x cbt cb csq = prodK (minusTwice (residK x cbt csq cb 5)) cbt := by
  unfold k0_pay51
  rw [ld_cbt, ld_csq, ld_cb, val41, val47, val48, val49, pay29_eq, residK_succ]
theorem val52 : k0_pay52 x cbt cb csq = normK (mulf (residK x cbt csq cb 5) (residK x cbt csq cb 5)) := by
  unfold k0_pay52
  rw [ld_csq, ld_cb, val41, val47, val48, val49, pay30_eq, residK_succ]
theorem val53 : k0_pay53 x cbt cb csq = residK x cbt csq cb 6 := by
  unfold k0_pay53
  rw [ld_csq, ld_cb, val41, val50, val51, val52, pay32_eq, residK_succ]
theorem val54 : k0_pay54 x cbt cb csq = halfK cbt (residK x cbt csq cb 6) := by
  unfold k0_pay54
  rw [ld_cbt, ld_csq, ld_cb, val41, val50, val51, val52, pay35_eq, residK_succ]
theorem val55 : k0_pay55 x cbt cb csq = score (residK x cbt csq cb 7) cbt csq := by
  unfold k0_pay55
  rw [ld_cbt, ld_csq, ld_cb, val41, val53, val54, pay40_eq, residK_succ]

/-! ## The stores -/

/-- The first output block: column `q` is what quantizer `q` found. -/
theorem stored_rows : out0_4 x cbt cb csq = View.canon
    [⟨r0_18, colK (foundK x cbt csq cb 7)⟩, ⟨r0_16, colK (foundK x cbt csq cb 6)⟩, ⟨r0_14, colK (foundK x cbt csq cb 5)⟩,
      ⟨r0_12, colK (foundK x cbt csq cb 4)⟩, ⟨r0_10, colK (foundK x cbt csq cb 3)⟩, ⟨r0_8, colK (foundK x cbt csq cb 2)⟩,
      ⟨r0_6, colK (foundK x cbt csq cb 1)⟩, ⟨r0_4, colK (foundK x cbt csq cb 0)⟩] := by
  unfold out0_4 k0_pay44
  rw [ld_x, ld_cbt, ld_csq, val41, val42, val43, val45, val46, val48, val49, val51, val52, val54, val55, pay2_eq, pay38_eq,
    pay33_eq, pay27_eq, pay21_eq, pay16_eq, pay11_eq, pay7_eq, pay4_eq]
  rfl

/-- The second output block: step `q` is the residual after quantizer `q`. -/
theorem stored_steps : out0_5 x cbt cb csq = View.canon
    [⟨r0_19, slabK (residK x cbt csq cb 8)⟩, ⟨r0_17, slabK (residK x cbt csq cb 7)⟩, ⟨r0_15, slabK (residK x cbt csq cb 6)⟩,
      ⟨r0_13, slabK (residK x cbt csq cb 5)⟩, ⟨r0_11, slabK (residK x cbt csq cb 4)⟩, ⟨r0_9, slabK (residK x cbt csq cb 3)⟩,
      ⟨r0_7, slabK (residK x cbt csq cb 2)⟩, ⟨r0_5, slabK (residK x cbt csq cb 1)⟩] := by
  unfold out0_5 k0_pay44
  rw [ld_cbt, ld_csq, ld_cb, val41, val42, val43, val45, val46, val47, val48, val49, val50, val51, val52, val53, val54, val55,
    pay37_eq, residK_succ, pay3_eq, pay39_eq, pay34_eq, pay28_eq, pay22_eq, pay17_eq, pay12_eq, pay8_eq]
  rfl

/-- Eight stored columns, read at a column. -/
theorem canon_columns (g : Fin 8 → Vec F S256x1 .i32) (t : Fin 256) (q : Fin 8) :
    View.canon (Val := Elt F) (e := .i32) [⟨r0_18, g 7⟩, ⟨r0_16, g 6⟩, ⟨r0_14, g 5⟩, ⟨r0_12, g 4⟩, ⟨r0_10, g 3⟩, ⟨r0_8, g 2⟩, ⟨r0_6, g 1⟩,
      ⟨r0_4, g 0⟩] (ix2 t q) = g q (ix2 t 0) := by
  have piece : ∀ (k : Fin 8) (h : ∀ a, (![0, k.val] : Fin 2 → ℕ) a + S256x1.size a ≤ S256x8.size a)
      (j : (Rect.unit (s := S256x8) ![0, k.val] S256x1.size h).shape.Idx),
      g k j = (fun y : S256x8.Idx => g (y 1) (ix2 (y 0) 0)) ((Rect.unit (s := S256x8) ![0, k.val] S256x1.size h).emb j) := by
    intro k h j
    obtain ⟨a, b, rfl⟩ : ∃ (a : Fin 256) (b : Fin 1), j = ix2 a b := ⟨j 0, j 1, eq_ix2 j⟩
    have e : (Rect.unit (s := S256x8) ![0, k.val] S256x1.size h).emb (ix2 a b) = ix2 a k := by
      funext d
      match d with
      | ⟨0, _⟩ => exact Fin.ext (by show 0 + 1 * a.val = a.val; omega)
      | ⟨1, _⟩ => exact Fin.ext (by show k.val + 1 * b.val = k.val; omega)
    rw [e]
    obtain rfl : b = 0 := Subsingleton.elim _ _
    rfl
  refine View.canon_apply_of_pieces (fun y : S256x8.Idx => g (y 1) (ix2 (y 0) 0)) _ ?_ (ix2 t q) (cover0_4 _ _ _ _ _ _ _ _ _)
  simp only [List.forall_mem_cons]
  exact ⟨piece 7 _, piece 6 _, piece 5 _, piece 4 _, piece 3 _, piece 2 _, piece 1 _, piece 0 _, fun _ h => nomatch h⟩

/-- Eight stored slabs, read at a slab. -/
theorem canon_slabs (g : Fin 8 → FVec F S256x1x32 .f32) (t : Fin 256) (q : Fin 8) (i : Fin 32) :
    View.canon (Val := Elt F) (e := .f32) [⟨r0_19, g 7⟩, ⟨r0_17, g 6⟩, ⟨r0_15, g 5⟩, ⟨r0_13, g 4⟩, ⟨r0_11, g 3⟩, ⟨r0_9, g 2⟩, ⟨r0_7, g 1⟩,
      ⟨r0_5, g 0⟩] (ix3 t q i) = g q (ix3 t 0 i) := by
  have piece : ∀ (k : Fin 8) (h : ∀ a, (![0, k.val, 0] : Fin 3 → ℕ) a + S256x1x32.size a ≤ S256x8x32.size a)
      (j : (Rect.unit (s := S256x8x32) ![0, k.val, 0] S256x1x32.size h).shape.Idx),
      g k j = (fun y : S256x8x32.Idx => g (y 1) (ix3 (y 0) 0 (y 2)))
        ((Rect.unit (s := S256x8x32) ![0, k.val, 0] S256x1x32.size h).emb j) := by
    intro k h j
    obtain ⟨a, b, c, rfl⟩ : ∃ (a : Fin 256) (b : Fin 1) (c : Fin 32), j = ix3 a b c := ⟨j 0, j 1, j 2, eq_ix3 j⟩
    have e : (Rect.unit (s := S256x8x32) ![0, k.val, 0] S256x1x32.size h).emb (ix3 a b c) = ix3 a k c := by
      funext d
      match d with
      | ⟨0, _⟩ => exact Fin.ext (by show 0 + 1 * a.val = a.val; omega)
      | ⟨1, _⟩ => exact Fin.ext (by show k.val + 1 * b.val = k.val; omega)
      | ⟨2, _⟩ => exact Fin.ext (by show 0 + 1 * c.val = c.val; omega)
    rw [e]
    obtain rfl : b = 0 := Subsingleton.elim _ _
    rfl
  refine View.canon_apply_of_pieces (fun y : S256x8x32.Idx => g (y 1) (ix3 (y 0) 0 (y 2))) _ ?_ (ix3 t q i) (cover0_5 _ _ _ _ _ _ _ _ _)
  simp only [List.forall_mem_cons]
  exact ⟨piece 7 _, piece 6 _, piece 5 _, piece 4 _, piece 3 _, piece 2 _, piece 1 _, piece 0 _, fun _ h => nomatch h⟩

end Text

/-! ## At real blocks -/

section Real

variable {x : FVec Ideal S256x32 .f32} {cbt : FVec Ideal S32x8192 .f32} {csq : FVec Ideal S1x8192 .f32}
  {cb : FVec Ideal S8192x32 .f32} {v : Fin 256 → Fin 32 → ℝ} {w : Fin 8192 → Fin 32 → ℝ}

/-- Column `q` of the first output block: the rows quantizer `q` of the model picks. -/
theorem rows_model (hx : ∀ t i, x (ix2 t i) = ↑(v t i)) (ht : ∀ k i, cbt (ix2 i k) = ↑(w k i))
    (hs : ∀ k, csq (ix2 0 k) = ↑(∑ i, w k i * w k i)) (hc : ∀ k i, cb (ix2 k i) = ↑(w k i)) (t : Fin 256) (q : Fin 8) :
    out0_4 (F := Ideal) x cbt cb csq (ix2 t q) = BitVec.ofNat 32 (best w (resid w (v t) q.val)).val := by
  rw [stored_rows]
  refine (canon_columns (fun q => colK (foundK x cbt csq cb q.val)) t q).trans ?_
  rw [colK_apply]
  exact foundK_apply hx ht hs hc q.val t

/-- Step `q` of the second output block: the residuals after quantizer `q` of the model. -/
theorem steps_model (hx : ∀ t i, x (ix2 t i) = ↑(v t i)) (ht : ∀ k i, cbt (ix2 i k) = ↑(w k i))
    (hs : ∀ k, csq (ix2 0 k) = ↑(∑ i, w k i * w k i)) (hc : ∀ k i, cb (ix2 k i) = ↑(w k i)) (t : Fin 256) (q : Fin 8)
    (i : Fin 32) : (out0_5 (F := Ideal) x cbt cb csq (ix3 t q i) : EReal) = ↑(resid w (v t) (q.val + 1) i) := by
  rw [stored_steps]
  refine (canon_slabs (fun q => slabK (residK x cbt csq cb (q.val + 1))) t q i).trans ?_
  rw [slabK_apply]
  exact residK_apply hx ht hs hc (q.val + 1) t i

end Real
end Cert.KernelIdeal.Val
-- ==== Proof.Ssa.lean ====
/-
  Straight-line host programs in which every operation writes a buffer of its own and reads buffers written earlier.
  The contents such a line ends with satisfy the equation of EVERY operation of the line at once: each result buffer
  holds its operation's function of what the operand buffers finally hold (`Ordered.solves`). So a value of the line is
  read by rewriting with one equation per operation, with no talk of the order of the operations or of which buffers differ.
-/
module

public import Idealize.ShloMosaic.Lib.StableHlo.Run

@[expose] public section

namespace Cert.Ssa

open Idealize.ShloMosaic Idealize.ShloMosaic.StableHlo Idealize.ShloMosaic.TcCoe

variable {τ : Topo} {sig : RefSig} {Val : EltTy → Type}

/-- `op` writes one buffer, that at position `k` of its memory space, and what it writes depends on buffers at earlier
    positions alone. -/
def Stage (k : ℕ) (op : HloOp τ sig Val) : Prop :=
  ∃ y : Ref sig .tc, y.idx.val = k ∧ op.writes = {Proc.devRef .tc y} ∧
    ∀ V W : Valuation τ sig Val, (∀ r : Ref sig .tc, r.idx.val < k → V (Proc.devRef .tc r) = W (Proc.devRef .tc r)) →
      op.result V (Proc.devRef .tc y) = op.result W (Proc.devRef .tc y)

/-- The operations of the line write the buffers at positions `n`, `n + 1`, `n + 2`, … in this order, each from buffers
    at earlier positions. -/
def Ordered : ℕ → List (HloOp τ sig Val) → Prop
  | _, [] => True
  | n, op :: ops => Stage n op ∧ Ordered (n + 1) ops

/-- The contents `W` satisfy the equation of the operation: what it writes is already there. -/
def Solved (W : Valuation τ sig Val) (op : HloOp τ sig Val) : Prop := ∀ b ∈ op.writes, W b = op.result W b

/-- The contents `W` satisfy the equations of all the operations of the line. -/
def Solves (W : Valuation τ sig Val) (ops : List (HloOp τ sig Val)) : Prop := ∀ op ∈ ops, Solved W op

/-- The buffers at positions before `n` are untouched by a line that begins at position `n`. -/
theorem Ordered.unchanged {r : Ref sig .tc} : ∀ {ops : List (HloOp τ sig Val)} {n : ℕ}, Ordered n ops → r.idx.val < n →
    ∀ V : Valuation τ sig Val, after ops V (Proc.devRef .tc r) = V (Proc.devRef .tc r)
  | [], _, _, _, _ => rfl
  | op :: ops, n, h, hr, V => by
    obtain ⟨⟨y, hy, hw, _⟩, ht⟩ := h
    rw [after_cons, Ordered.unchanged ht (Nat.lt_succ_of_lt hr)]
    refine op.result_of_not_mem V fun hm => ?_
    rw [hw, Finset.mem_singleton] at hm
    have := Proc.devRef_injective _ hm
    subst this; omega

/-- What an ordered line ends with satisfies all its equations. -/
theorem Ordered.solves : ∀ {ops : List (HloOp τ sig Val)} {n : ℕ}, Ordered n ops →
    ∀ V : Valuation τ sig Val, Solves (after ops V) ops
  | [], _, _, _ => fun _ h => nomatch h
  | op :: ops, n, h, V => by
    intro o ho
    rcases List.mem_cons.mp ho with rfl | ho
    · obtain ⟨⟨y, hy, hw, hread⟩, ht⟩ := h
      intro b hbm
      have hby : b = Proc.devRef .tc y := by rw [hw, Finset.mem_singleton] at hbm; exact hbm
      subst hby
      rw [after_cons, ht.unchanged (by omega)]
      refine hread _ _ fun r hr => ?_
      rw [ht.unchanged (by omega)]
      refine (o.result_of_not_mem V fun hm => ?_).symm
      rw [hw, Finset.mem_singleton] at hm
      have := Proc.devRef_injective _ hm
      subst this; omega
    · exact Ordered.solves h.2 (op.result V) o ho

/-! ## The builders are stages, and their equations -/

section Builders

variable {x a b c e y : Ref sig .tc} {k : ℕ} {W : Valuation τ sig Val}

theorem stage_nullary {v : y.ty.Contents Val} {hy} (h : y.idx.val = k) : Stage k (nullary (τ := τ) y v hy) :=
  ⟨y, h, rfl, fun V W _ => by rw [nullary_result, nullary_result]⟩
theorem stage_unary {f : x.ty.Contents Val → y.ty.Contents Val} {hx hy} (h : y.idx.val = k) (h1 : x.idx.val < k) :
    Stage k (unary (τ := τ) x y f hx hy) :=
  ⟨y, h, rfl, fun V W g => by rw [unary_result, unary_result, g x h1]⟩
theorem stage_binary {f : a.ty.Contents Val → b.ty.Contents Val → y.ty.Contents Val} {ha hb hy} (h : y.idx.val = k)
    (h1 : a.idx.val < k) (h2 : b.idx.val < k) : Stage k (binary (τ := τ) a b y f ha hb hy) :=
  ⟨y, h, rfl, fun V W g => by rw [binary_result, binary_result, g a h1, g b h2]⟩
theorem stage_reshape {he hn hx hy} (h : y.idx.val = k) (h1 : x.idx.val < k) :
    Stage k (reshape (τ := τ) (Val := Val) x y he hn hx hy) :=
  ⟨y, h, rfl, fun V W g => by rw [reshape_result, reshape_result, g x h1]⟩
theorem stage_ternary {f : c.ty.Contents Val → a.ty.Contents Val → b.ty.Contents Val → y.ty.Contents Val} {hc ha hb hy}
    (h : y.idx.val = k) (h1 : c.idx.val < k) (h2 : a.idx.val < k) (h3 : b.idx.val < k) :
    Stage k (ternary (τ := τ) c a b y f hc ha hb hy) :=
  ⟨y, h, rfl, fun V W g => by rw [ternary_result, ternary_result, g c h1, g a h2, g b h3]⟩
theorem stage_quaternary
    {f : a.ty.Contents Val → b.ty.Contents Val → c.ty.Contents Val → e.ty.Contents Val → y.ty.Contents Val} {ha hb hc he hy}
    (h : y.idx.val = k) (h1 : a.idx.val < k) (h2 : b.idx.val < k) (h3 : c.idx.val < k) (h4 : e.idx.val < k) :
    Stage k (quaternary (τ := τ) a b c e y f ha hb hc he hy) :=
  ⟨y, h, rfl, fun V W g => by rw [quaternary_result, quaternary_result, g a h1, g b h2, g c h3, g e h4]⟩
theorem stage_nary {n : Nat} {xs : Fin n → Ref sig .tc} {f : ((j : Fin n) → (xs j).ty.Contents Val) → y.ty.Contents Val}
    {hxs hy} (h : y.idx.val = k) (h1 : ∀ j, (xs j).idx.val < k) : Stage k (nary (τ := τ) xs y f hxs hy) :=
  ⟨y, h, rfl, fun V W g => by rw [nary_result, nary_result]; exact congrArg f (funext fun j => g _ (h1 j))⟩

theorem solved_nullary {v : y.ty.Contents Val} {hy} (h : Solved W (nullary (τ := τ) y v hy)) :
    W (Proc.devRef .tc y) = v := (h _ (Finset.mem_singleton_self _)).trans (nullary_result ..)
theorem solved_unary {f : x.ty.Contents Val → y.ty.Contents Val} {hx hy} (h : Solved W (unary (τ := τ) x y f hx hy)) :
    W (Proc.devRef .tc y) = f (W (Proc.devRef .tc x)) := (h _ (Finset.mem_singleton_self _)).trans (unary_result ..)
theorem solved_binary {f : a.ty.Contents Val → b.ty.Contents Val → y.ty.Contents Val} {ha hb hy}
    (h : Solved W (binary (τ := τ) a b y f ha hb hy)) :
    W (Proc.devRef .tc y) = f (W (Proc.devRef .tc a)) (W (Proc.devRef .tc b)) :=
  (h _ (Finset.mem_singleton_self _)).trans (binary_result ..)
theorem solved_reshape {he : x.ty.elt = y.ty.elt} {hn hx hy}
    (h : Solved W (reshape (τ := τ) (Val := Val) x y he hn hx hy)) :
    W (Proc.devRef .tc y) = fun i => he ▸ shapeCast y.ty.shape (W (Proc.devRef .tc x)) hn i :=
  (h _ (Finset.mem_singleton_self _)).trans (reshape_result ..)
theorem solved_ternary {f : c.ty.Contents Val → a.ty.Contents Val → b.ty.Contents Val → y.ty.Contents Val} {hc ha hb hy}
    (h : Solved W (ternary (τ := τ) c a b y f hc ha hb hy)) :
    W (Proc.devRef .tc y) = f (W (Proc.devRef .tc c)) (W (Proc.devRef .tc a)) (W (Proc.devRef .tc b)) :=
  (h _ (Finset.mem_singleton_self _)).trans (ternary_result ..)
theorem solved_quaternary
    {f : a.ty.Contents Val → b.ty.Contents Val → c.ty.Contents Val → e.ty.Contents Val → y.ty.Contents Val} {ha hb hc he hy}
    (h : Solved W (quaternary (τ := τ) a b c e y f ha hb hc he hy)) :
    W (Proc.devRef .tc y) =
      f (W (Proc.devRef .tc a)) (W (Proc.devRef .tc b)) (W (Proc.devRef .tc c)) (W (Proc.devRef .tc e)) :=
  (h _ (Finset.mem_singleton_self _)).trans (quaternary_result ..)
theorem solved_nary {n : Nat} {xs : Fin n → Ref sig .tc} {f : ((j : Fin n) → (xs j).ty.Contents Val) → y.ty.Contents Val}
    {hxs hy} (h : Solved W (nary (τ := τ) xs y f hxs hy)) :
    W (Proc.devRef .tc y) = f fun j => W (Proc.devRef .tc (xs j)) :=
  (h _ (Finset.mem_singleton_self _)).trans (nary_result ..)

end Builders

/-! ## The same at typed references -/

section Typed

variable {T Tx Ta Tb Tc Te Ty : BufTy} {W : Valuation τ sig Val}

/-- What the contents hold at a typed reference, at the reference's type. -/
def rd (W : Valuation τ sig Val) (t : TRef sig T) : T.Contents Val := t.ofBuf (W (Proc.devRef .tc t.ref))

theorem rd_nullary {y : TRef sig Ty} {v : Ty.Contents Val} (h : Solved W (TRef.nullary (τ := τ) y v)) : rd W y = v := by
  rw [rd, solved_nullary h, TRef.ofBuf_toBuf]
theorem rd_unary {x : TRef sig Tx} {y : TRef sig Ty} {f : Tx.Contents Val → Ty.Contents Val}
    (h : Solved W (TRef.unary (τ := τ) x y f)) : rd W y = f (rd W x) := by
  rw [rd, solved_unary h, TRef.ofBuf_toBuf]; rfl
theorem rd_binary {a : TRef sig Ta} {b : TRef sig Tb} {y : TRef sig Ty}
    {f : Ta.Contents Val → Tb.Contents Val → Ty.Contents Val} (h : Solved W (TRef.binary (τ := τ) a b y f)) :
    rd W y = f (rd W a) (rd W b) := by
  rw [rd, solved_binary h, TRef.ofBuf_toBuf]; rfl
theorem rd_ternary {c : TRef sig Tc} {a : TRef sig Ta} {b : TRef sig Tb} {y : TRef sig Ty}
    {f : Tc.Contents Val → Ta.Contents Val → Tb.Contents Val → Ty.Contents Val}
    (h : Solved W (TRef.ternary (τ := τ) c a b y f)) : rd W y = f (rd W c) (rd W a) (rd W b) := by
  rw [rd, solved_ternary h, TRef.ofBuf_toBuf]; rfl
theorem rd_quaternary {a : TRef sig Ta} {b : TRef sig Tb} {c : TRef sig Tc} {e : TRef sig Te} {y : TRef sig Ty}
    {f : Ta.Contents Val → Tb.Contents Val → Tc.Contents Val → Te.Contents Val → Ty.Contents Val}
    (h : Solved W (TRef.quaternary (τ := τ) a b c e y f)) : rd W y = f (rd W a) (rd W b) (rd W c) (rd W e) := by
  rw [rd, solved_quaternary h, TRef.ofBuf_toBuf]; rfl

end Typed

end Cert.Ssa
-- ==== Proof.KerHost.lean ====
/-
  The host operations around the kernel. Before it: the tokens in one list, the codebook transposed, the squared lengths of
  its rows (`entry_model`). After it: the tokens minus the last residuals, the row numbers and the mean squares of the
  residuals, each at the shape the results have (`exit_model`).
-/
module

public import proofs.«01_k».proof.Proof.Gen.KernelIdeal.Launch
public import proofs.«01_k».proof.Proof.Ssa
public import proofs.«01_k».proof.Proof.Model
public import proofs.«01_k».proof.Proof.RealSums
public import Idealize.ShloMosaic.Lib.Pointwise
public import Idealize.ShloMosaic.Lib.Pipeline.Value

@[expose] public section

set_option maxRecDepth 16384

noncomputable section

namespace Cert.KernelIdeal.Val

open Idealize.ShloMosaic Idealize.ShloMosaic.TcCoe Idealize.ShloMosaic.StableHlo
open Cert.KernelIdeal Cert.KernelIdeal.Gen Cert.Ssa Cert.Model Cert.RealSums
open Facts₀ Facts

section Text
variable {F : FTy → Type} [FloatOps F]

theorem hostOps0_ordered : Ordered 2 (hostOps0 (F := F)) :=
  ⟨stage_reshape rfl (by decide), stage_unary rfl (by decide), stage_binary rfl (by decide) (by decide), stage_nullary rfl,
    stage_binary rfl (by decide) (by decide), stage_unary rfl (by decide), trivial⟩

theorem hostOps1_ordered : Ordered 10 (hostOps1 (F := F)) :=
  ⟨stage_unary rfl (by decide), stage_reshape rfl (by decide), stage_binary rfl (by decide) (by decide),
    stage_binary rfl (by decide) (by decide), stage_nullary rfl, stage_binary rfl (by decide) (by decide), stage_nullary rfl,
    stage_unary rfl (by decide), stage_binary rfl (by decide) (by decide), stage_reshape rfl (by decide),
    stage_reshape rfl (by decide), trivial⟩

end Text

/-- Token `s` of the list of all tokens: token `s % 1024` of batch `s / 1024`. -/
def flat {α : Type} (v : Fin 32 → Fin 1024 → α) (s : Fin 32768) : α :=
  v ⟨s.val / 1024, by have := s.isLt; omega⟩ ⟨s.val % 1024, Nat.mod_lt _ (by decide)⟩

/-- Token `n` of batch `b` in that list. -/
def place (b : Fin 32) (n : Fin 1024) : Fin 32768 := ⟨b.val * 1024 + n.val, by have := b.isLt; have := n.isLt; omega⟩

theorem flat_place {α : Type} (v : Fin 32 → Fin 1024 → α) (b : Fin 32) (n : Fin 1024) : flat v (place b n) = v b n := by
  have := n.isLt
  exact congrArg₂ v (Fin.ext (by show (b.val * 1024 + n.val) / 1024 = b.val; omega))
    (Fin.ext (by show (b.val * 1024 + n.val) % 1024 = n.val; omega))

/-- A sum over all tokens, batch by batch. -/
theorem sum_flat (f : Fin 32 → Fin 1024 → ℝ) : ∑ s, flat f s = ∑ b, ∑ n, f b n := by
  rw [← Fintype.sum_prod_type']
  refine Fintype.sum_equiv ⟨fun s => (⟨s.val / 1024, by have := s.isLt; omega⟩, ⟨s.val % 1024, Nat.mod_lt _ (by decide)⟩),
    fun p => place p.1 p.2, fun s => Fin.ext ?_, fun p => ?_⟩ _ _ fun s => rfl
  · show s.val / 1024 * 1024 + s.val % 1024 = s.val; omega
  · have := p.2.isLt
    refine Prod.ext (Fin.ext ?_) (Fin.ext ?_)
    · show (p.1.val * 1024 + p.2.val) / 1024 = p.1.val; omega
    · show (p.1.val * 1024 + p.2.val) % 1024 = p.2.val; omega

/-- The shape cast that lists the tokens of all batches, read at a token, -/
theorem listed {α : Type} {d : ℕ} (x : (⟨3, ![32, 1024, d]⟩ : Shape).Idx → α)
    (h : (⟨3, ![32, 1024, d]⟩ : Shape).ShapeCasts ⟨2, ![32768, d]⟩) (s : Fin 32768) (i : Fin d) :
    shapeCast ⟨2, ![32768, d]⟩ x h (ix2 s i) = flat (fun b n => x (ix3 b n i)) s := by
  refine shapeCast_apply x h _ _ ?_
  rw [Shape.rowMajor_val_three, Shape.rowMajor_val_two]
  show (s.val / 1024 * 1024 + s.val % 1024) * d + i.val = s.val * d + i.val
  rw [Nat.div_add_mod']

/-- and the one that takes the list apart again. -/
theorem unlisted {α : Type} {d : ℕ} (x : (⟨2, ![32768, d]⟩ : Shape).Idx → α)
    (h : (⟨2, ![32768, d]⟩ : Shape).ShapeCasts ⟨3, ![32, 1024, d]⟩) (b : Fin 32) (n : Fin 1024) (i : Fin d) :
    shapeCast ⟨3, ![32, 1024, d]⟩ x h (ix3 b n i) = x (ix2 (place b n) i) := by
  refine shapeCast_apply x h _ _ ?_
  rw [Shape.rowMajor_val_three, Shape.rowMajor_val_two]
  rfl

/-- An element of the residuals of all steps goes into entry `q` of the sums exactly when its step is `q`. -/
theorem drop_iff (h : S32768x8x32.ReducesTo [0, 2] S8) (q : Fin 8) (j : S32768x8x32.Idx) :
    h.drop j = ix1 q ↔ ∃ p : Fin 32768 × Fin 32, ix3 p.1 q p.2 = j := by
  obtain ⟨s, r, i, rfl⟩ : ∃ (s : Fin 32768) (r : Fin 8) (i : Fin 32), j = ix3 s r i := ⟨j 0, j 1, j 2, eq_ix3 j⟩
  constructor
  · intro e
    obtain rfl : r = q := Fin.ext (congrArg (fun f : S8.Idx => (f 0).val) e)
    exact ⟨(s, i), rfl⟩
  · rintro ⟨p, e⟩
    obtain rfl : q = r := congrFun e 1
    funext a
    match a with
    | ⟨0, _⟩ => rfl

/-- The sum over all tokens and coordinates, step by step. -/
theorem sum_steps (h : S32768x8x32.ReducesTo [0, 2] S8) (x : S32768x8x32.Idx → EReal) (q : Fin 8) :
    Ideal.hostReduceAdd h x 0 (ix1 q) = ∑ s : Fin 32768, ∑ i : Fin 32, x (ix3 s q i) := by
  unfold Ideal.hostReduceAdd
  rw [zero_add]
  refine (Finset.sum_filter_eq_sum_of_fiber _ (fun p : Fin 32768 × Fin 32 => ix3 p.1 q p.2)
    (fun a b e => Prod.ext (congrFun e 0) (congrFun e 2)) (drop_iff h q) x).trans ?_
  exact Fintype.sum_prod_type _

section Real
variable {W : Valuation τ sig (Elt Ideal)} {v : Fin 32 → Fin 1024 → Fin 32 → ℝ} {w : Fin 8192 → Fin 32 → ℝ}

theorem entry_model (h : Solves W hostOps0)
    (hx : ∀ b n i, (W (Proc.devRef .tc main_arg0) : FVec Ideal S32x1024x32 .f32) (ix3 b n i) = ((v b n i : ℝ) : EReal))
    (hw : ∀ k i, (W (Proc.devRef .tc main_arg1) : FVec Ideal S8192x32 .f32) (ix2 k i) = ((w k i : ℝ) : EReal)) :
    (∀ s i, (W (Proc.devRef .tc main_v0) : FVec Ideal S32768x32 .f32) (ix2 s i) = ((flat v s i : ℝ) : EReal))
      ∧ (∀ k i, (W (Proc.devRef .tc main_v1) : FVec Ideal S32x8192 .f32) (ix2 i k) = ((w k i : ℝ) : EReal))
      ∧ (∀ k, (W (Proc.devRef .tc main_v4) : FVec Ideal S1x8192 .f32) (ix2 0 k) = ((∑ i, w k i * w k i : ℝ) : EReal)) := by
  simp only [hostOps0, Solves, List.forall_mem_cons] at h
  obtain ⟨h0, h1, h2, hz, h3, h4, -⟩ := h
  refine ⟨fun s i => ?_, fun k i => ?_, fun k => ?_⟩
  · rw [solved_reshape h0]
    exact (listed _ _ s i).trans (hx _ _ i)
  · rw [solved_unary h1]; pointwise; exact hw k i
  · rw [solved_unary h4, solved_binary h3, solved_binary h2, solved_nullary hz]
    pointwise
    simp only [hw, ← EReal.coe_mul, ← coe_sum]

theorem exit_model (h : Solves W hostOps1)
    (hx : ∀ s i, (W (Proc.devRef .tc main_v0) : FVec Ideal S32768x32 .f32) (ix2 s i) = ((flat v s i : ℝ) : EReal))
    (hk : ∀ s q, (W (Proc.devRef .tc main_v5_0) : IVec S32768x8 32) (ix2 s q)
      = BitVec.ofNat 32 (best w (resid w (flat v s) q.val)).val)
    (hr : ∀ s q i, (W (Proc.devRef .tc main_v5_1) : FVec Ideal S32768x8x32 .f32) (ix3 s q i)
      = ((resid w (flat v s) (q.val + 1) i : ℝ) : EReal)) :
    (∀ b n i, (W (Proc.devRef .tc main_v13) : FVec Ideal S32x1024x32 .f32) (ix3 b n i)
        = ((v b n i - resid w (v b n) 8 i : ℝ) : EReal))
      ∧ (∀ b n q, (W (Proc.devRef .tc main_v14) : IVec S32x1024x8 32) (ix3 b n q)
        = BitVec.ofNat 32 (best w (resid w (v b n) q.val)).val)
      ∧ (∀ q, (W (Proc.devRef .tc main_v12) : FVec Ideal S8 .f32) (ix1 q) = ((meanSquare w v q.val : ℝ) : EReal)) := by
  simp only [hostOps1, Solves, List.forall_mem_cons] at h
  obtain ⟨h6, h7, h8, h9, hz, h10, hn, h11, h12, h13, h14, -⟩ := h
  refine ⟨fun b n i => ?_, fun b n q => ?_, fun q => ?_⟩
  · have e : (W (Proc.devRef .tc main_v7) : FVec Ideal S32768x32 .f32) (ix2 (place b n) i)
        = ((resid w (flat v (place b n)) 8 i : ℝ) : EReal) := by
      rw [solved_reshape h7, solved_unary h6]
      refine (shapeCast_apply (t := S32768x32) _ _ (ix2 (place b n) i) (ix3 (place b n) 0 i) ?_).trans ?_
      · rw [Shape.rowMajor_val_three, Shape.rowMajor_val_two]; show ((place b n).val * 1 + 0) * 32 + i.val = (place b n).val * 32 + i.val; omega
      · pointwise; exact hr (place b n) 7 i
    rw [solved_reshape h13]
    refine (unlisted _ _ b n i).trans ?_
    rw [solved_binary h8]
    pointwise
    rw [e, hx, flat_place, ← EReal.coe_sub]
  · rw [solved_reshape h14]
    refine (unlisted _ _ b n q).trans ?_
    rw [hk, flat_place]
  · rw [solved_binary h12, solved_binary h10, solved_binary h9, solved_unary h11, solved_nullary hz, solved_nullary hn]
    pointwise
    simp only [hr, ← EReal.coe_mul, ← coe_sum, ofBits_count]
    rw [sum_steps, Ideal.div_coe (by norm_num)]
    pointwise
    simp only [hr, ← EReal.coe_mul, ← coe_sum]
    refine (congrArg (fun t : ℝ => ((t * (1 / 1048576) : ℝ) : EReal)) (sum_flat fun b n => ∑ i, resid w (v b n) (q.val + 1) i * resid w (v b n) (q.val + 1) i)).trans ?_
    unfold meanSquare
    congr 1
    ring

end Real
end Cert.KernelIdeal.Val
-- ==== Proof.KerRun.lean ====
/-
  The kernel's run at the ideal instance. Grid point `t` reads tokens `256 t … 256 t + 255` and the whole codebook, and writes
  those tokens' rows of the two output arrays; so the arrays after the run hold, for every token, the eight row numbers and the
  eight residuals (`rows_array`, `steps_array`). The host lines after the kernel make the three results of them (`run_model`).
-/
module

public import proofs.«01_k».proof.Proof.Gen.KernelIdeal.Frame
public import proofs.«01_k».proof.Proof.KerBlock
public import proofs.«01_k».proof.Proof.KerHost
public import Idealize.ShloMosaic.Lib.Pipeline.ValueKit

@[expose] public section

set_option maxRecDepth 16384

noncomputable section

namespace Cert.KernelIdeal.Val

open Idealize.ShloMosaic Idealize.ShloMosaic.TcCoe Idealize.ShloMosaic.StableHlo Idealize.ShloMosaic.Pipeline
open Idealize.SL.Sem
open Cert.KernelIdeal Cert.KernelIdeal.Gen Cert.Ssa Cert.Model Cert.RealSums

/-! ## Where the windows' blocks lie -/

/-- The block indices of the windows at each grid point: the tokens' and the outputs' follow the point, the rest stand still. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0, 0] := by
  decide +kernel

/-- Token `r` of grid point `t`'s block, in the list of all tokens. -/
def token (t : Fin cfg0.N) (r : Fin 256) : Fin 32768 :=
  ⟨t.val * 256 + r.val, by have h : t.val < 128 := t.isLt; have := r.isLt; omega⟩

section Reads
variable (m : (ℓ : Loc nD τ sig) → Buf (Elt Ideal) ℓ) (c : Dev nD)

theorem read_tokens (t : Fin cfg0.N) (r : Fin 256) (i : Fin 32) :
    (iblk m c 0 t : Vec Ideal S256x32 .f32) (ix2 r i) = V m c main_v0 (ix2 (token t r) i) := by
  unfold token
  blk_ext [iblk, idx t]

theorem read_transposed (t : Fin cfg0.N) (i : Fin 32) (k : Fin 8192) :
    (iblk m c 1 t : Vec Ideal S32x8192 .f32) (ix2 i k) = V m c main_v1 (ix2 i k) := by
  blk_ext [iblk, idx t]

theorem read_codebook (t : Fin cfg0.N) (k : Fin 8192) (i : Fin 32) :
    (iblk m c 2 t : Vec Ideal S8192x32 .f32) (ix2 k i) = V m c main_arg1 (ix2 k i) := by
  blk_ext [iblk, idx t]

theorem read_squares (t : Fin cfg0.N) (k : Fin 8192) :
    (iblk m c 3 t : Vec Ideal S1x8192 .f32) (ix2 0 k) = V m c main_v4 (ix2 0 k) := by
  blk_ext [iblk, idx t]

end Reads

/-! ## The two output arrays after the run -/

section Arrays
variable {m : (ℓ : Loc nD τ sig) → Buf (Elt Ideal) ℓ} {c : Dev nD} {v : Fin 32 → Fin 1024 → Fin 32 → ℝ} {w : Fin 8192 → Fin 32 → ℝ}

/-- The two arguments hold the reals `v` (the tokens) and `w` (the codebook) on device `c`. -/
def Holds (m : (ℓ : Loc nD τ sig) → Buf (Elt Ideal) ℓ) (c : Dev nD) (v : Fin 32 → Fin 1024 → Fin 32 → ℝ)
    (w : Fin 8192 → Fin 32 → ℝ) : Prop :=
  (∀ b n i, (m ((c : Thread nD τ).loc main_arg0) : Vec Ideal S32x1024x32 .f32) (ix3 b n i) = ((v b n i : ℝ) : EReal))
    ∧ ∀ k i, (m ((c : Thread nD τ).loc main_arg1) : Vec Ideal S8192x32 .f32) (ix2 k i) = ((w k i : ℝ) : EReal)

/-- What the kernel finds in the arrays it reads. -/
theorem entry (h : Holds m c v w) : (∀ s i, (V m c main_v0 : Vec Ideal S32768x32 .f32) (ix2 s i) = ((flat v s i : ℝ) : EReal))
    ∧ (∀ k i, (V m c main_v1 : Vec Ideal S32x8192 .f32) (ix2 i k) = ((w k i : ℝ) : EReal))
    ∧ ∀ k, (V m c main_v4 : Vec Ideal S1x8192 .f32) (ix2 0 k) = ((∑ i, w k i * w k i : ℝ) : EReal) :=
  entry_model (W := V0 m c) (hostOps0_ordered.solves _)
    (fun b n i => (congrFun (V_main_arg0 m c) _).trans (h.1 b n i)) (fun k i => (congrFun (V_main_arg1 m c) _).trans (h.2 k i))

/-- What grid point `t` computes: the row numbers and the residuals of its tokens. -/
theorem block (h : Holds m c v w) (t : Fin cfg0.N) (r : Fin 256) (q : Fin 8) :
    out0_4 (F := Ideal) (iblk m c 0 t) (iblk m c 1 t) (iblk m c 2 t) (iblk m c 3 t) (ix2 r q)
        = BitVec.ofNat 32 (best w (resid w (flat v (token t r)) q.val)).val
      ∧ ∀ i : Fin 32, (out0_5 (F := Ideal) (iblk m c 0 t) (iblk m c 1 t) (iblk m c 2 t) (iblk m c 3 t) (ix3 r q i) : EReal)
        = ((resid w (flat v (token t r)) (q.val + 1) i : ℝ) : EReal) := by
  have hx := fun r i => (read_tokens m c t r i).trans ((entry h).1 _ _)
  have ht := fun k i => (read_transposed m c t i k).trans ((entry h).2.1 k i)
  have hs := fun k => (read_squares m c t k).trans ((entry h).2.2 k)
  have hc := fun k i => (read_codebook m c t k i).trans ((congrFun (V_main_arg1 m c) _).trans (h.2 k i))
  exact ⟨rows_model (v := fun r => flat v (token t r)) hx ht hs hc r q,
    fun i => steps_model (v := fun r => flat v (token t r)) hx ht hs hc r q i⟩

/-- The row numbers: every token's nearest codebook rows, one for each step. -/
theorem rows_array (h : Holds m c v w) : (dats m 0 c).arrAt 4 cfg0.N
    = fun y : S32768x8.Idx => BitVec.ofNat 32 (best w (resid w (flat v (y 0)) (y 1).val)).val := by
  refine (dats m 0 c).arrAt_eq_of_covers 4 _ (by decide +kernel) fun t hf y => ?_
  have h0 : ((cfg0.win 4).blk t).view.emb y 0 = token t (y 0) := Fin.ext (by unfold token; blk_simp [idx t])
  have h1 : ((cfg0.win 4).blk t).view.emb y 1 = y 1 := Fin.ext (by blk_simp [idx t])
  have hy : (y : S256x8.Idx) = ix2 (y 0) (y 1) := funext fun a => match a with | ⟨0, _⟩ => rfl | ⟨1, _⟩ => rfl
  rw [h0, h1]
  blk_simp
  rw [after0_4]
  exact (congrArg _ hy).trans (block h t (y 0) (y 1)).1

/-- The residuals: what is left of every token after each step. -/
theorem steps_array (h : Holds m c v w) : (dats m 0 c).arrAt 5 cfg0.N
    = fun y : S32768x8x32.Idx => ((resid w (flat v (y 0)) ((y 1).val + 1) (y 2) : ℝ) : EReal) := by
  refine (dats m 0 c).arrAt_eq_of_covers 5 _ (by decide +kernel) fun t hf y => ?_
  have h0 : ((cfg0.win 5).blk t).view.emb y 0 = token t (y 0) := Fin.ext (by unfold token; blk_simp [idx t])
  have h1 : ((cfg0.win 5).blk t).view.emb y 1 = y 1 := Fin.ext (by blk_simp [idx t])
  have h2 : ((cfg0.win 5).blk t).view.emb y 2 = y 2 := Fin.ext (by blk_simp [idx t])
  have hy : (y : S256x8x32.Idx) = ix3 (y 0) (y 1) (y 2) :=
    funext fun a => match a with | ⟨0, _⟩ => rfl | ⟨1, _⟩ => rfl | ⟨2, _⟩ => rfl
  rw [h0, h1, h2]
  blk_simp
  rw [after0_5]
  exact (congrArg _ hy).trans ((block h t (y 0) (y 1)).2 (y 2))

/-- The contents after the last host line. -/
def ending (m : (ℓ : Loc nD τ sig) → Buf (Elt Ideal) ℓ) (c : Dev nD) : Valuation τ sig (Elt Ideal) :=
  after hostOps1 (Pipeline.withArrays spec0 c (V0 m c) fun k => (dats m 0 c).arrAt k cfg0.N)

/-- A window's array is, until a host line writes over it, what the run left in it. -/
theorem ending_array (k : Fin cfg0.W) (hk : (Pipeline.arrRef spec0 k).idx.val < 10) :
    ending m c (Proc.devRef .tc (Pipeline.arrRef spec0 k)) = (dats m 0 c).arrAt k cfg0.N :=
  (hostOps1_ordered.unchanged hk _).trans (Pipeline.withArrays_arr spec0 (by decide) c _ _ k)

/-- The three results: the sum of the chosen codebook rows, the row numbers, the mean squares of the residuals. -/
theorem ending_model (h : Holds m c v w) :
    (∀ b n i, (ending m c (Proc.devRef .tc main_v13) : Vec Ideal S32x1024x32 .f32) (ix3 b n i)
        = ((v b n i - resid w (v b n) 8 i : ℝ) : EReal))
      ∧ (∀ b n q, (ending m c (Proc.devRef .tc main_v14) : Vec Ideal S32x1024x8 .i32) (ix3 b n q)
        = BitVec.ofNat 32 (best w (resid w (v b n) q.val)).val)
      ∧ ∀ q, (ending m c (Proc.devRef .tc main_v12) : Vec Ideal S8 .f32) (ix1 q) = ((meanSquare w v q.val : ℝ) : EReal) := by
  refine exit_model (hostOps1_ordered.solves _) (fun s i => ?_) (fun s q => ?_) (fun s q i => ?_)
  · refine (congrFun (ending_array (m := m) (c := c) 0 (by decide)) (ix2 s i)).trans ?_
    rw [(dats m 0 c).arrAt_in 0 rfl, A_eq]
    exact (entry h).1 s i
  · refine (congrFun (ending_array (m := m) (c := c) 4 (by decide)) (ix2 s q)).trans ?_
    rw [rows_array h]; rfl
  · refine (congrFun (ending_array (m := m) (c := c) 5 (by decide)) (ix3 s q i)).trans ?_
    rw [steps_array h]; rfl

end Arrays

/-- What a run of the kernel ends with: the contents `ending`, and the arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v13) = ending m c (Proc.devRef .tc main_v13)
      ∧ r.2.mem ((c : Thread nD τ).loc main_v14) = ending m c (Proc.devRef .tc main_v14)
      ∧ r.2.mem ((c : Thread nD τ).loc main_v12) = ending m c (Proc.devRef .tc main_v12)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(h c).2 main_v13 (Pipeline.mem_restRefs_of main_v13 (by decide) (by decide)),
      (h c).2 main_v14 (Pipeline.mem_restRefs_of main_v14 (by decide) (by decide)),
      (h c).2 main_v12 (Pipeline.mem_restRefs_of main_v12 (by decide) (by decide)),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c)))⟩)
    (run_main m ρ)

end Cert.KernelIdeal.Val
-- ==== Proof.RefOps.lean ====
/-
  The reference's operations as lists. The reference calls one local function, `quantize`, once per codebook pass; each
  call's operations are one list (`quantOps`) at that call's buffers, and the program is the straight line `mainOps`
  (`main_isSeq`).
-/
module

public import proofs.«01_k».proof.Proof.Ssa
public import proofs.«01_k».proof.Proof.Gen.ReferenceIdeal
public import Idealize.ShloMosaic.Lib.StableHlo.RunHlo
public import Idealize.ShloMosaic.Lib.Claim
public import Idealize.ShloMosaic.PureOps.Ideal

@[expose] public section

noncomputable section

namespace Cert.ReferenceIdeal.Val

open Idealize.ShloMosaic Idealize.ShloMosaic.TcCoe Idealize.ShloMosaic.StableHlo Idealize.SL.Sem Cert.Ssa
open Facts₀ Facts

variable {F : FTy → Type} [FloatOps F]

/-! ## The operations, function by function -/

/-- The operations of one call of the arg-min. -/
def argminOps (arg0 : TRef sig ⟨S32x1024x8192, .f32⟩) (φ : fn_argmin.Bufs) : List (HloOp τ sig (Elt F)) :=
  TRef.nullary φ.v0 (iotaInDim S32x1024x8192 32 2) ::
  TRef.nullary φ.cst (constant S_ .f32 0x7F800000#32) ::
  TRef.nullary φ.c (constantI S_ 32 0#32) ::
  TRef.quaternary arg0 φ.v0 φ.cst φ.c φ.v1_0 (fun x y u v j => (Host.argReduce reducer_argmin_f32_i32 x y u v reducesTo_S32x1024x8192_S32x1024_d2 h_S_ j).1) ::
  TRef.quaternary arg0 φ.v0 φ.cst φ.c φ.v1_1 (fun x y u v j => (Host.argReduce reducer_argmin_f32_i32 x y u v reducesTo_S32x1024x8192_S32x1024_d2 h_S_ j).2) ::
  []

/-- The operation of one call of the three-way selection. -/
def whereOps (arg0 : TRef sig ⟨S32x1024, .i1⟩) (arg1 : TRef sig ⟨S32x1024, .i32⟩)
    (arg2 : TRef sig ⟨S32x1024, .i32⟩) (φ : fn_where.Bufs) : List (HloOp τ sig (Elt F)) :=
  TRef.ternary arg0 arg1 arg2 φ.v0 select ::
  []

/-- The operations of one call of the row look-up. -/
def takeOps (arg0 : TRef sig ⟨S8192x32, .f32⟩) (arg1 : TRef sig ⟨S32x1024, .i32⟩) (φ : fn_take.Bufs) : List (HloOp τ sig (Elt F)) :=
  TRef.nullary φ.c (constantI S_ 32 0#32) ::
  TRef.unary φ.c φ.v0 (broadcastInDim S32x1024 ![] bcast_S_S32x1024) ::
  TRef.binary arg1 φ.v0 φ.v1 (cmpi .slt) ::
  TRef.nullary φ.c_0 (constantI S_ 32 8192#32) ::
  TRef.unary φ.c_0 φ.v2 (broadcastInDim S32x1024 ![] bcast_S_S32x1024) ::
  TRef.binary arg1 φ.v2 φ.v3 addi ::
  (whereOps φ.v1 φ.v3 arg1 φ.call0 ++
  TRef.unary φ.call0.v0 φ.v5 (broadcastInDim S32x1024x1 ![0, 1] bcast_S32x1024_S32x1024x1_0_1) ::
  TRef.nullary φ.c_1 (constantI S1 32 8191#32) ::
  TRef.nullary φ.c_2 (constantI S_ 32 0#32) ::
  TRef.unary φ.c_2 φ.v6 (broadcastInDim S32x1024x1 ![] bcast_S_S32x1024x1) ::
  TRef.binary φ.v5 φ.v6 φ.v7 (cmpi .sge) ::
  TRef.unary φ.c_1 φ.v8 (broadcastInDim S1x1x1 ![2] bcast_S1_S1x1x1_2) ::
  TRef.unary φ.v8 φ.v9 (broadcastInDim S32x1024x1 ![0, 1, 2] bcast_S1x1x1_S32x1024x1_0_1_2) ::
  TRef.binary φ.v5 φ.v9 φ.v10 (cmpi .sle) ::
  TRef.binary φ.v7 φ.v10 φ.v11 andi ::
  TRef.nullary φ.c_3 (constantI S_ 1 1#1) ::
  TRef.binary φ.v11 φ.c_3 φ.v12 (fun x v => Host.reduce IntOp.andi x v reducesTo_S32x1024x1_S32x1024_d2 h_S_) ::
  TRef.binary arg0 φ.v5 φ.v13 (fun x i => Host.gather gather_S8192x32_S32x1024x1_S32x1024x32_2_0_n_n_0_2_132 x i) ::
  TRef.unary φ.v12 φ.v14 (broadcastInDim S32x1024x32 ![0, 1] bcast_S32x1024_S32x1024x32_0_1) ::
  TRef.nullary φ.cst (constant S_ .f32 0x7FC00000#32) ::
  TRef.unary φ.cst φ.v15 (broadcastInDim S32x1024x32 ![] bcast_S_S32x1024x32) ::
  TRef.ternary φ.v14 φ.v13 φ.v15 φ.v16 select ::
  [])

/-- The operations of one codebook pass. -/
def quantOps (arg0 : TRef sig ⟨S32x1024x32, .f32⟩) (arg1 : TRef sig ⟨S8192x32, .f32⟩) (arg2 : TRef sig ⟨S8192, .f32⟩)
    (φ : fn_quantize_0.Bufs) : List (HloOp τ sig (Elt F)) :=
  TRef.binary arg0 arg0 φ.v0 mulf ::
  TRef.nullary φ.cst (constant S_ .f32 0x00000000#32) ::
  TRef.binary φ.v0 φ.cst φ.v1 (fun x v => Host.reduceAdd x v reducesTo_S32x1024x32_S32x1024_d2 h_S_) ::
  TRef.unary φ.v1 φ.v2 (broadcastInDim S32x1024x1 ![0, 1] bcast_S32x1024_S32x1024x1_0_1) ::
  TRef.binary arg0 arg1 φ.v3 (fun l r => Host.dotGeneral dot_S32x1024x32_S8192x32_S32x1024x8192_2_1_01_0_n_n none l r) ::
  TRef.nullary φ.cst_0 (constant S_ .f32 0x40000000#32) ::
  TRef.unary φ.cst_0 φ.v4 (broadcastInDim S32x1024x8192 ![] bcast_S_S32x1024x8192) ::
  TRef.binary φ.v4 φ.v3 φ.v5 mulf ::
  TRef.unary φ.v2 φ.v6 (broadcastInDim S32x1024x8192 ![0, 1, 2] bcast_S32x1024x1_S32x1024x8192_0_1_2) ::
  TRef.binary φ.v6 φ.v5 φ.v7 subf ::
  TRef.unary arg2 φ.v8 (broadcastInDim S1x1x8192 ![2] bcast_S8192_S1x1x8192_2) ::
  TRef.unary φ.v8 φ.v9 (broadcastInDim S32x1024x8192 ![0, 1, 2] bcast_S1x1x8192_S32x1024x8192_0_1_2) ::
  TRef.binary φ.v7 φ.v9 φ.v10 addf ::
  (argminOps φ.v10 φ.call0 ++
  (takeOps arg1 φ.call0.v1_1 φ.call1 ++
  TRef.binary φ.call1.v16 arg0 φ.v13 subf ::
  TRef.binary φ.v13 φ.v13 φ.v14 mulf ::
  TRef.nullary φ.cst_1 (constant S_ .f32 0x00000000#32) ::
  TRef.binary φ.v14 φ.cst_1 φ.v15 (fun x v => Host.reduceAdd x v reducesTo_S32x1024x32_S_d0_1_2 h_S_) ::
  TRef.nullary φ.cst_2 (constant S_ .f32 0x49800000#32) ::
  TRef.binary φ.v15 φ.cst_2 φ.v16 Host.divf ::
  TRef.binary φ.call1.v16 arg0 φ.v17 subf ::
  TRef.binary arg0 φ.v17 φ.v18 addf ::
  TRef.binary arg0 φ.call1.v16 φ.v19 subf ::
  []))

/-- The first call of the pass has a copy of the function of its own, with the same buffers: they as a record of the other. -/
def asRecord (φ : fn_quantize.Bufs) : fn_quantize_0.Bufs where
  v0 := φ.v0
  cst := φ.cst
  v1 := φ.v1
  v2 := φ.v2
  v3 := φ.v3
  cst_0 := φ.cst_0
  v4 := φ.v4
  v5 := φ.v5
  v6 := φ.v6
  v7 := φ.v7
  v8 := φ.v8
  v9 := φ.v9
  v10 := φ.v10
  call0 := φ.call0
  call1 := φ.call1
  v13 := φ.v13
  v14 := φ.v14
  cst_1 := φ.cst_1
  v15 := φ.v15
  cst_2 := φ.cst_2
  v16 := φ.v16
  v17 := φ.v17
  v18 := φ.v18
  v19 := φ.v19

/-- The operations of the whole program. -/
def mainOps : List (HloOp τ sig (Elt F)) :=
  nullary main_cst (constant S_ .f32 0x00000000#32) ::
  unary main_cst main_v0 (broadcastInDim S32x1024x32 ![] bcast_S_S32x1024x32 : (⟨S_, .f32⟩ : BufTy).Contents (Elt F) → (⟨S32x1024x32, .f32⟩ : BufTy).Contents (Elt F)) ::
  binary main_arg1 main_arg1 main_v1 (mulf : (⟨S8192x32, .f32⟩ : BufTy).Contents (Elt F) → (⟨S8192x32, .f32⟩ : BufTy).Contents (Elt F) → (⟨S8192x32, .f32⟩ : BufTy).Contents (Elt F)) ::
  nullary main_cst_0 (constant S_ .f32 0x00000000#32) ::
  binary main_v1 main_cst_0 main_v2 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)) ::
  (quantOps (.of main_arg0) (.of main_arg1) (.of main_v2) (asRecord main_call0) ++
  binary main_v0 main_v3_2 main_v4 (addf : (⟨S32x1024x32, .f32⟩ : BufTy).Contents (Elt F) → (⟨S32x1024x32, .f32⟩ : BufTy).Contents (Elt F) → (⟨S32x1024x32, .f32⟩ : BufTy).Contents (Elt F)) ::
  (quantOps (.of main_v3_3) (.of main_arg1) (.of main_v2) main_call1 ++
  binary main_v4 main_v5_2 main_v6 (addf : (⟨S32x1024x32, .f32⟩ : BufTy).Contents (Elt F) → (⟨S32x1024x32, .f32⟩ : BufTy).Contents (Elt F) → (⟨S32x1024x32, .f32⟩ : BufTy).Contents (Elt F)) ::
  (quantOps (.of main_v5_3) (.of main_arg1) (.of main_v2) main_call2 ++
  binary main_v6 main_v7_2 main_v8 (addf : (⟨S32x1024x32, .f32⟩ : BufTy).Contents (Elt F) → (⟨S32x1024x32, .f32⟩ : BufTy).Contents (Elt F) → (⟨S32x1024x32, .f32⟩ : BufTy).Contents (Elt F)) ::
  (quantOps (.of main_v7_3) (.of main_arg1) (.of main_v2) main_call3 ++
  binary main_v8 main_v9_2 main_v10 (addf : (⟨S32x1024x32, .f32⟩ : BufTy).Contents (Elt F) → (⟨S32x1024x32, .f32⟩ : BufTy).Contents (Elt F) → (⟨S32x1024x32, .f32⟩ : BufTy).Contents (Elt F)) ::
  (quantOps (.of main_v9_3) (.of main_arg1) (.of main_v2) main_call4 ++
  binary main_v10 main_v11_2 main_v12 (addf : (⟨S32x1024x32, .f32⟩ : BufTy).Contents (Elt F) → (⟨S32x1024x32, .f32⟩ : BufTy).Contents (Elt F) → (⟨S32x1024x32, .f32⟩ : BufTy).Contents (Elt F)) ::
  (quantOps (.of main_v11_3) (.of main_arg1) (.of main_v2) main_call5 ++
  binary main_v12 main_v13_2 main_v14 (addf : (⟨S32x1024x32, .f32⟩ : BufTy).Contents (Elt F) → (⟨S32x1024x32, .f32⟩ : BufTy).Contents (Elt F) → (⟨S32x1024x32, .f32⟩ : BufTy).Contents (Elt F)) ::
  (quantOps (.of main_v13_3) (.of main_arg1) (.of main_v2) main_call6 ++
  binary main_v14 main_v15_2 main_v16 (addf : (⟨S32x1024x32, .f32⟩ : BufTy).Contents (Elt F) → (⟨S32x1024x32, .f32⟩ : BufTy).Contents (Elt F) → (⟨S32x1024x32, .f32⟩ : BufTy).Contents (Elt F)) ::
  (quantOps (.of main_v15_3) (.of main_arg1) (.of main_v2) main_call7 ++
  binary main_v16 main_v17_2 main_v18 (addf : (⟨S32x1024x32, .f32⟩ : BufTy).Contents (Elt F) → (⟨S32x1024x32, .f32⟩ : BufTy).Contents (Elt F) → (⟨S32x1024x32, .f32⟩ : BufTy).Contents (Elt F)) ::
  unary main_v3_0 main_v19 (broadcastInDim S32x1024x1 ![0, 1] bcast_S32x1024_S32x1024x1_0_1 : (⟨S32x1024, .i32⟩ : BufTy).Contents (Elt F) → (⟨S32x1024x1, .i32⟩ : BufTy).Contents (Elt F)) ::
  unary main_v5_0 main_v20 (broadcastInDim S32x1024x1 ![0, 1] bcast_S32x1024_S32x1024x1_0_1 : (⟨S32x1024, .i32⟩ : BufTy).Contents (Elt F) → (⟨S32x1024x1, .i32⟩ : BufTy).Contents (Elt F)) ::
  unary main_v7_0 main_v21 (broadcastInDim S32x1024x1 ![0, 1] bcast_S32x1024_S32x1024x1_0_1 : (⟨S32x1024, .i32⟩ : BufTy).Contents (Elt F) → (⟨S32x1024x1, .i32⟩ : BufTy).Contents (Elt F)) ::
  unary main_v9_0 main_v22 (broadcastInDim S32x1024x1 ![0, 1] bcast_S32x1024_S32x1024x1_0_1 : (⟨S32x1024, .i32⟩ : BufTy).Contents (Elt F) → (⟨S32x1024x1, .i32⟩ : BufTy).Contents (Elt F)) ::
  unary main_v11_0 main_v23 (broadcastInDim S32x1024x1 ![0, 1] bcast_S32x1024_S32x1024x1_0_1 : (⟨S32x1024, .i32⟩ : BufTy).Contents (Elt F) → (⟨S32x1024x1, .i32⟩ : BufTy).Contents (Elt F)) ::
  unary main_v13_0 main_v24 (broadcastInDim S32x1024x1 ![0, 1] bcast_S32x1024_S32x1024x1_0_1 : (⟨S32x1024, .i32⟩ : BufTy).Contents (Elt F) → (⟨S32x1024x1, .i32⟩ : BufTy).Contents (Elt F)) ::
  unary main_v15_0 main_v25 (broadcastInDim S32x1024x1 ![0, 1] bcast_S32x1024_S32x1024x1_0_1 : (⟨S32x1024, .i32⟩ : BufTy).Contents (Elt F) → (⟨S32x1024x1, .i32⟩ : BufTy).Contents (Elt F)) ::
  unary main_v17_0 main_v26 (broadcastInDim S32x1024x1 ![0, 1] bcast_S32x1024_S32x1024x1_0_1 : (⟨S32x1024, .i32⟩ : BufTy).Contents (Elt F) → (⟨S32x1024x1, .i32⟩ : BufTy).Contents (Elt F)) ::
  nary ![main_v19, main_v20, main_v21, main_v22, main_v23, main_v24, main_v25, main_v26] main_v27 (fun u => (concatenate S32x1024x8 2 [⟨S32x1024x1, (u 0 : (⟨S32x1024x1, .i32⟩ : BufTy).Contents (Elt F))⟩, ⟨S32x1024x1, (u 1 : (⟨S32x1024x1, .i32⟩ : BufTy).Contents (Elt F))⟩, ⟨S32x1024x1, (u 2 : (⟨S32x1024x1, .i32⟩ : BufTy).Contents (Elt F))⟩, ⟨S32x1024x1, (u 3 : (⟨S32x1024x1, .i32⟩ : BufTy).Contents (Elt F))⟩, ⟨S32x1024x1, (u 4 : (⟨S32x1024x1, .i32⟩ : BufTy).Contents (Elt F))⟩, ⟨S32x1024x1, (u 5 : (⟨S32x1024x1, .i32⟩ : BufTy).Contents (Elt F))⟩, ⟨S32x1024x1, (u 6 : (⟨S32x1024x1, .i32⟩ : BufTy).Contents (Elt F))⟩, ⟨S32x1024x1, (u 7 : (⟨S32x1024x1, .i32⟩ : BufTy).Contents (Elt F))⟩] concatenates_S32x1024x1_S32x1024x1_S32x1024x1_S32x1024x1_S32x1024x1_S32x1024x1_S32x1024x1_S32x1024x1_S32x1024x8_d2 : (⟨S32x1024x8, .i32⟩ : BufTy).Contents (Elt F))) ::
  unary main_v3_1 main_v28 (broadcastInDim S1 ![] bcast_S_S1 : (⟨S_, .f32⟩ : BufTy).Contents (Elt F) → (⟨S1, .f32⟩ : BufTy).Contents (Elt F)) ::
  unary main_v5_1 main_v29 (broadcastInDim S1 ![] bcast_S_S1 : (⟨S_, .f32⟩ : BufTy).Contents (Elt F) → (⟨S1, .f32⟩ : BufTy).Contents (Elt F)) ::
  unary main_v7_1 main_v30 (broadcastInDim S1 ![] bcast_S_S1 : (⟨S_, .f32⟩ : BufTy).Contents (Elt F) → (⟨S1, .f32⟩ : BufTy).Contents (Elt F)) ::
  unary main_v9_1 main_v31 (broadcastInDim S1 ![] bcast_S_S1 : (⟨S_, .f32⟩ : BufTy).Contents (Elt F) → (⟨S1, .f32⟩ : BufTy).Contents (Elt F)) ::
  unary main_v11_1 main_v32 (broadcastInDim S1 ![] bcast_S_S1 : (⟨S_, .f32⟩ : BufTy).Contents (Elt F) → (⟨S1, .f32⟩ : BufTy).Contents (Elt F)) ::
  unary main_v13_1 main_v33 (broadcastInDim S1 ![] bcast_S_S1 : (⟨S_, .f32⟩ : BufTy).Contents (Elt F) → (⟨S1, .f32⟩ : BufTy).Contents (Elt F)) ::
  unary main_v15_1 main_v34 (broadcastInDim S1 ![] bcast_S_S1 : (⟨S_, .f32⟩ : BufTy).Contents (Elt F) → (⟨S1, .f32⟩ : BufTy).Contents (Elt F)) ::
  unary main_v17_1 main_v35 (broadcastInDim S1 ![] bcast_S_S1 : (⟨S_, .f32⟩ : BufTy).Contents (Elt F) → (⟨S1, .f32⟩ : BufTy).Contents (Elt F)) ::
  nary ![main_v28, main_v29, main_v30, main_v31, main_v32, main_v33, main_v34, main_v35] main_v36 (fun u => (concatenate S8 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩, ⟨S1, (u 3 : (⟨S1, .f32⟩ : BufTy).Contents (Elt F))⟩, ⟨S1, (u 4 : (⟨S1, .f32⟩ : BufTy).Contents (Elt F))⟩, ⟨S1, (u 5 : (⟨S1, .f32⟩ : BufTy).Contents (Elt F))⟩, ⟨S1, (u 6 : (⟨S1, .f32⟩ : BufTy).Contents (Elt F))⟩, ⟨S1, (u 7 : (⟨S1, .f32⟩ : BufTy).Contents (Elt F))⟩] concatenates_S1_S1_S1_S1_S1_S1_S1_S1_S8_d0 : (⟨S8, .f32⟩ : BufTy).Contents (Elt F))) ::
  []))))))))

/-! ## The printed program is this line -/

theorem IsSeq.append {p k : Prog (TpuEff nD τ sig (Elt F) (Pipeline.Sig Λ₀ (Fin 0) fun p => (pcfgs (F := F) p).Adm) .tc) PUnit}
    {l₁ l₂ : List (HloOp τ sig (Elt F))} (hp : IsSeq p l₁) (hk : IsSeq k l₂) :
    IsSeq (p >>= fun _ => k) (l₁ ++ l₂) := by
  unfold IsSeq at hp hk ⊢; rw [hp, hk, seq_append]

theorem argmin_isSeq (a φ) : IsSeq (fn_argmin.body (F := F) a φ) (argminOps a φ) := by
  unfold fn_argmin.body argminOps
  repeat (first | exact IsSeq.nil | apply IsSeq.cons)
theorem where_isSeq (a b c φ) : IsSeq (fn_where.body (F := F) a b c φ) (whereOps a b c φ) := by
  unfold fn_where.body whereOps
  repeat (first | exact IsSeq.nil | apply IsSeq.cons)
theorem take_isSeq (a b φ) : IsSeq (fn_take.body (F := F) a b φ) (takeOps a b φ) := by
  unfold fn_take.body takeOps
  repeat (first | exact IsSeq.nil | apply IsSeq.cons | apply IsSeq.append (where_isSeq _ _ _ _))
theorem quant_isSeq (a b c φ) : IsSeq (fn_quantize_0.body (F := F) a b c φ) (quantOps a b c φ) := by
  unfold fn_quantize_0.body quantOps
  repeat (first | exact IsSeq.nil | apply IsSeq.cons | apply IsSeq.append (argmin_isSeq _ _)
                | apply IsSeq.append (take_isSeq _ _ _))
theorem quant_first_isSeq (a b c φ) : IsSeq (fn_quantize.body (F := F) a b c φ) (quantOps a b c (asRecord φ)) :=
  quant_isSeq a b c (asRecord φ)

theorem main_isSeq (d : Dev nD) : IsSeq (main (F := F) d) mainOps := by
  unfold main mainOps
  repeat (first | exact IsSeq.nil | apply IsSeq.cons | apply IsSeq.append (quant_isSeq _ _ _ _)
                | apply IsSeq.append (quant_first_isSeq _ _ _ _))

end Cert.ReferenceIdeal.Val
-- ==== Proof.RefRun.lean ====
/-
  The reference's run. Every operation of the line writes a buffer of its own (`mainOps_ordered`), so at the end of a run
  the buffers satisfy the equations of all the operations, the arguments are unchanged and no semaphore is in use (`run`).
-/
module

public import proofs.«01_k».proof.Proof.RefOps
public import Idealize.ShloMosaic.Lib.Quiescent

@[expose] public section

noncomputable section

namespace Cert.ReferenceIdeal.Val

open Idealize.ShloMosaic Idealize.ShloMosaic.TcCoe Idealize.ShloMosaic.StableHlo Idealize.SL.Sem Cert.Ssa
open Facts₀ Facts

variable {F : FTy → Type} [FloatOps F]

/-! ## Every operation writes a buffer of its own -/

set_option maxHeartbeats 4000000 in
set_option maxRecDepth 100000 in
theorem mainOps_ordered : Ordered 2 (mainOps (F := F)) := by
  unfold mainOps quantOps argminOps takeOps whereOps
  repeat (first
    | exact trivial
    | refine ⟨stage_binary rfl (by decide) (by decide), ?_⟩
    | refine ⟨stage_unary rfl (by decide), ?_⟩
    | refine ⟨stage_nullary rfl, ?_⟩
    | refine ⟨stage_ternary rfl (by decide) (by decide) (by decide), ?_⟩
    | refine ⟨stage_quaternary rfl (by decide) (by decide) (by decide) (by decide), ?_⟩
    | refine ⟨stage_nary rfl (by decide), ?_⟩)

/-! ## The run -/

/-- The operation's buffers are all the tensor core's, and it determines what it writes. -/
def Plain (op : HloOp τ sig (Elt F)) : Prop := op.bufs ⊆ tcRefs τ sig ∧ op.fresh = ∅

theorem mainOps_plain : ∀ op ∈ mainOps (F := F), Plain op := by
  unfold mainOps quantOps argminOps takeOps whereOps
  simp only [List.cons_append, List.nil_append, List.forall_mem_cons]
  repeat (first | exact fun _ h => nomatch h | refine ⟨⟨by simp, rfl⟩, ?_⟩)

/-- What a run of the reference ends with, on each device: contents that satisfy every operation's equation and hold the
    arguments as they were. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ d : Dev nD, ∃ W : Valuation τ sig (Elt F), Solves W mainOps
        ∧ (∀ b : Ref sig .tc, r.2.mem ((d.tc : Thread nD τ).loc b) = W (Proc.devRef .tc b))
        ∧ W (Proc.devRef .tc main_arg0) = m ((d.tc : Thread nD τ).loc main_arg0)
        ∧ W (Proc.devRef .tc main_arg1) = m ((d.tc : Thread nD τ).loc main_arg1))
      ∧ r.2.sem = fun _ => 0 := by
  refine θ_run_mono (run_hlo _ _ main_isSeq (by decide) (by decide)
    (List.forall_iff_forall_mem.mpr fun op h => (mainOps_plain op h).1) (fun op h => (mainOps_plain op h).2) m ρ) fun r h => ?_
  refine ⟨fun d => ⟨after mainOps (launchContents m d), mainOps_ordered.solves _, h d, ?_, ?_⟩,
    sem_eq_zero_of_no_sems (by decide) _⟩
  · exact mainOps_ordered.unchanged (by decide) _
  · exact mainOps_ordered.unchanged (by decide) _

end Cert.ReferenceIdeal.Val
-- ==== Proof.RefPass.lean ====
/-
  One codebook pass of the reference as tensors: the distances, the arg-min, the row look-up and the four results, and
  what any call's buffers hold once the equations of its operations hold (`quant_reads`).
-/
module

public import proofs.«01_k».proof.Proof.RefOps

@[expose] public section

noncomputable section

namespace Cert.ReferenceIdeal.Val

open Idealize.ShloMosaic Idealize.ShloMosaic.TcCoe Idealize.ShloMosaic.StableHlo Idealize.SL.Sem Cert.Ssa
open Facts₀ Facts

variable {F : FTy → Type} [FloatOps F]

/-- Every token's squared distance to every codebook row, from the tokens `r`, the codebook `c` and the rows' squared
    lengths `cs`. -/
def distT (r : FVec F S32x1024x32 .f32) (c : FVec F S8192x32 .f32) (cs : FVec F S8192 .f32) : FVec F S32x1024x8192 .f32 :=
  addf
    (subf
      (broadcastInDim S32x1024x8192 ![0, 1, 2] bcast_S32x1024x1_S32x1024x8192_0_1_2
        (broadcastInDim S32x1024x1 ![0, 1] bcast_S32x1024_S32x1024x1_0_1
          (Host.reduceAdd (mulf r r) (constant S_ .f32 0x00000000#32) reducesTo_S32x1024x32_S32x1024_d2 h_S_)))
      (mulf (broadcastInDim S32x1024x8192 ![] bcast_S_S32x1024x8192 (constant S_ .f32 0x40000000#32))
        (Host.dotGeneral dot_S32x1024x32_S8192x32_S32x1024x8192_2_1_01_0_n_n none r c)))
    (broadcastInDim S32x1024x8192 ![0, 1, 2] bcast_S1x1x8192_S32x1024x8192_0_1_2
      (broadcastInDim S1x1x8192 ![2] bcast_S8192_S1x1x8192_2 cs))

/-- The smallest distance with its place, for every token. -/
def leastT (d : FVec F S32x1024x8192 .f32) : S32x1024.Idx → F .f32 × BitVec 32 := fun j =>
  Host.argReduce reducer_argmin_f32_i32 d (iotaInDim S32x1024x8192 32 2) (constant S_ .f32 0x7F800000#32)
    (constantI S_ 32 0#32) reducesTo_S32x1024x8192_S32x1024_d2 h_S_ j

/-- The second components of pairs. -/
def seconds {ι α β : Type} (L : ι → α × β) : ι → β := fun j => (L j).2

theorem seconds_apply {ι α β : Type} {L : ι → α × β} {j : ι} {p : α × β} (h : L j = p) : seconds L j = p.2 :=
  congrArg Prod.snd h

/-- The place of the smallest distance, for every token. -/
def idxT (d : FVec F S32x1024x8192 .f32) : IVec S32x1024 32 := seconds (leastT d)

/-- The index with a negative one counted from the end. -/
def wrapT (i : IVec S32x1024 32) : IVec S32x1024x1 32 :=
  broadcastInDim S32x1024x1 ![0, 1] bcast_S32x1024_S32x1024x1_0_1
    (select (cmpi .slt i (broadcastInDim S32x1024 ![] bcast_S_S32x1024 (constantI S_ 32 0#32)))
      (addi i (broadcastInDim S32x1024 ![] bcast_S_S32x1024 (constantI S_ 32 8192#32))) i)

/-- Whether an index is a row of the codebook. -/
def insideT (w : IVec S32x1024x1 32) : IVec S32x1024 1 :=
  Host.reduce IntOp.andi
    (andi (cmpi .sge w (broadcastInDim S32x1024x1 ![] bcast_S_S32x1024x1 (constantI S_ 32 0#32)))
      (cmpi .sle w
        (broadcastInDim S32x1024x1 ![0, 1, 2] bcast_S1x1x1_S32x1024x1_0_1_2
          (broadcastInDim S1x1x1 ![2] bcast_S1_S1x1x1_2 (constantI S1 32 8191#32)))))
    (constantI S_ 1 1#1) reducesTo_S32x1024x1_S32x1024_d2 h_S_

/-- The codebook rows at the indices. -/
def takeT (c : FVec F S8192x32 .f32) (i : IVec S32x1024 32) : FVec F S32x1024x32 .f32 :=
  select (broadcastInDim S32x1024x32 ![0, 1] bcast_S32x1024_S32x1024x32_0_1 (insideT (wrapT i)))
    (Host.gather gather_S8192x32_S32x1024x1_S32x1024x32_2_0_n_n_0_2_132 c (wrapT i))
    (broadcastInDim S32x1024x32 ![] bcast_S_S32x1024x32 (constant S_ .f32 0x7FC00000#32))

/-- The mean squared difference of the looked-up rows from the tokens. -/
def lossT (q r : FVec F S32x1024x32 .f32) : FVec F S_ .f32 :=
  Host.divf
    (Host.reduceAdd (mulf (subf q r) (subf q r)) (constant S_ .f32 0x00000000#32) reducesTo_S32x1024x32_S_d0_1_2 h_S_)
    (constant S_ .f32 0x49800000#32)

theorem solves_cons {W : Valuation τ sig (Elt F)} {op ops} : Solves W (op :: ops) ↔ Solved W op ∧ Solves W ops :=
  List.forall_mem_cons
theorem solves_append {W : Valuation τ sig (Elt F)} {l₁ l₂} : Solves W (l₁ ++ l₂) ↔ Solves W l₁ ∧ Solves W l₂ :=
  List.forall_mem_append

theorem argmin_reads {W : Valuation τ sig (Elt F)} {a φ} (h : Solves W (argminOps a φ)) :
    rd W φ.v1_1 = idxT (rd W a) := by
  unfold argminOps at h
  simp only [solves_cons] at h
  obtain ⟨h0, h1, h2, -, h4, -⟩ := h
  rw [rd_quaternary h4, rd_nullary h0, rd_nullary h1, rd_nullary h2]; rfl

theorem take_reads {W : Valuation τ sig (Elt F)} {a b φ} (h : Solves W (takeOps a b φ)) :
    rd W φ.v16 = takeT (rd W a) (rd W b) := by
  unfold takeOps whereOps at h
  simp only [solves_cons, solves_append, List.cons_append, List.nil_append] at h
  obtain ⟨h0, h1, h2, h3, h4, h5, h6, h7, h8, h9, h10, h11, h12, h13, h14, h15, h16, h17, h18, h19, h20, h21, h22, -⟩ := h
  have e5 : rd W φ.v5 = wrapT (rd W b) := by
    rw [rd_unary h7, rd_ternary h6, rd_binary h5, rd_unary h4, rd_nullary h3, rd_binary h2, rd_unary h1, rd_nullary h0]; rfl
  have e12 : rd W φ.v12 = insideT (rd W φ.v5) := by
    rw [rd_binary h17, rd_nullary h16, rd_binary h15, rd_binary h14, rd_unary h13, rd_unary h12, rd_binary h11,
      rd_unary h10, rd_nullary h9, rd_nullary h8]; rfl
  rw [rd_ternary h22, rd_unary h21, rd_nullary h20, rd_unary h19, rd_binary h18, e12, e5]; rfl

/-- The results of one pass over the tokens `r`: the indices, the looked-up rows `q`, the loss, the rows as the reference
    adds them up, and the next tokens. -/
theorem quant_reads {W : Valuation τ sig (Elt F)} {a b c φ} (h : Solves W (quantOps a b c φ)) :
    rd W φ.call0.v1_1 = idxT (distT (rd W a) (rd W b) (rd W c))
      ∧ rd W φ.v16 = lossT (takeT (rd W b) (rd W φ.call0.v1_1)) (rd W a)
      ∧ rd W φ.v18 = (addf (rd W a) (subf (takeT (rd W b) (rd W φ.call0.v1_1)) (rd W a) : FVec F S32x1024x32 .f32)
          : FVec F S32x1024x32 .f32)
      ∧ rd W φ.v19 = (subf (rd W a) (takeT (rd W b) (rd W φ.call0.v1_1)) : FVec F S32x1024x32 .f32) := by
  unfold quantOps at h
  simp only [solves_cons, solves_append] at h
  obtain ⟨h0, h1, h2, h3, h4, h5, h6, h7, h8, h9, h10, h11, h12, ha, ht, h13, h14, h15, h16, h17, h18, h19, h20, h21, -⟩ := h
  have et := take_reads ht
  refine ⟨?_, ?_, ?_, ?_⟩
  · rw [argmin_reads ha, rd_binary h12, rd_unary h11, rd_unary h10, rd_binary h9, rd_unary h8, rd_binary h7, rd_unary h6,
      rd_nullary h5, rd_binary h4, rd_unary h3, rd_binary h2, rd_nullary h1, rd_binary h0]; rfl
  · rw [rd_binary h18, rd_nullary h17, rd_binary h16, rd_nullary h15, rd_binary h14, rd_binary h13, et]; rfl
  · rw [rd_binary h20, rd_binary h19, et]
  · rw [rd_binary h21, et]

end Cert.ReferenceIdeal.Val
-- ==== Proof.RefValue.lean ====
/-
  One codebook pass of the reference at real inputs is one pass of the model (Model.lean): the distances, the first
  nearest row's index, the looked-up row, the loss and the next tokens, each read at an index.
-/
module

public import proofs.«01_k».proof.Proof.RefPass
public import proofs.«01_k».proof.Proof.Model
public import proofs.«01_k».proof.Proof.RealSums
public import Idealize.ShloMosaic.Lib.StableHlo.Predicate

@[expose] public section

noncomputable section

namespace Cert.ReferenceIdeal.Val

open Idealize.ShloMosaic Idealize.ShloMosaic.TcCoe Idealize.ShloMosaic.StableHlo Cert.Ssa Cert.Model Cert.RealSums
open Facts₀ Facts

/-- The distances at real tokens and a real codebook. -/
theorem distT_apply {r : FVec Ideal S32x1024x32 .f32} {c : FVec Ideal S8192x32 .f32} {cs : FVec Ideal S8192 .f32}
    {v : Fin 32 → Fin 1024 → Fin 32 → ℝ} {w : Fin 8192 → Fin 32 → ℝ}
    (hr : ∀ b n i, r (ix3 b n i) = ((v b n i : ℝ) : EReal)) (hc : ∀ k i, c (ix2 k i) = ((w k i : ℝ) : EReal))
    (hcs : ∀ k, cs (ix1 k) = ((∑ i, w k i * w k i : ℝ) : EReal)) (b : Fin 32) (n : Fin 1024) (k : Fin 8192) :
    distT r c cs (ix3 b n k) = ((Model.dist w (v b n) k : ℝ) : EReal) := by
  pointwise [distT]
  simp only [hr, hc, hcs, ofBits_two, Model.dist, EReal.coe_add, EReal.coe_sub, EReal.coe_mul, coe_sum]

/-! ## The arg-min -/

/-- A row's distance with its number, as the arg-min carries them. -/
def pair (d : Fin 8192 → ℝ) (k : Fin 8192) : EReal × BitVec 32 := (((d k : ℝ) : EReal), BitVec.ofNat 32 k.val)

theorem slt_row (k l : Fin 8192) : IntOp.cmpi .slt (BitVec.ofNat 32 k.val) (BitVec.ofNat 32 l.val) = if k < l then 1#1 else 0#1 := by
  have hs := Predicate.slt_ofNat_iff k.val l.val (by omega) (by omega)
  have e : IntOp.cmpi .slt (BitVec.ofNat 32 k.val) (BitVec.ofNat 32 l.val)
    = BitVec.ofBool ((BitVec.ofNat 32 k.val).slt (BitVec.ofNat 32 l.val)) := rfl
  rw [e]
  by_cases h : k < l
  · rw [if_pos h, hs]; exact h
  · rw [if_neg h]
    exact (BitVec.eq_zero_or_eq_one _).resolve_right fun e => h (hs.mp e)

theorem reducer_pair (d : Fin 8192 → ℝ) (k l : Fin 8192) :
    reducer_argmin_f32_i32 (F := Ideal) (pair d k) (pair d l)
      = if d k < d l ∨ d k = d l ∧ k < l then pair d k else pair d l := by
  unfold reducer_argmin_f32_i32
  simp only [Ideal.cmpf_def, Ideal.cmp, pair, EReal.coe_lt_coe_iff, EReal.coe_eq_coe_iff, slt_row]
  by_cases h1 : d k < d l
  · have h2 : d k ≠ d l := h1.ne
    simp [h1, h2, Scalar.select, IntOp.ori, IntOp.andi]
  · by_cases h2 : d k = d l
    · by_cases h3 : k < l <;> simp [h2, h3, Scalar.select, IntOp.ori, IntOp.andi]
    · simp [h1, h2, Scalar.select, IntOp.ori, IntOp.andi]

theorem reducer_init (d : Fin 8192 → ℝ) (l : Fin 8192) :
    reducer_argmin_f32_i32 (F := Ideal) (⊤, 0#32) (pair d l) = pair d l := by
  unfold reducer_argmin_f32_i32
  simp [Ideal.cmpf_def, Ideal.cmp, pair, Scalar.select, IntOp.ori, IntOp.andi]

/-- The arg-min's fold over a list of rows among which the first nearest one is ends with it. -/
theorem foldl_pair {ι : Type} {d : Fin 8192 → ℝ} {b : Fin 8192} (hb : FirstMin d b) (g : ι → EReal × BitVec 32)
    (k : ι → Fin 8192) (L : List ι) (hg : ∀ n ∈ L, g n = pair d (k n)) (a : EReal × BitVec 32)
    (ha : a = (⊤, 0#32) ∨ ∃ l, a = pair d l) (hm : a = pair d b ∨ ∃ n ∈ L, k n = b) :
    L.foldl (fun r n => reducer_argmin_f32_i32 (F := Ideal) r (g n)) a = pair d b := by
  induction L generalizing a with
  | nil => simpa using hm
  | cons n L ih =>
    rw [List.foldl_cons, hg n (by simp)]
    have hgL : ∀ n ∈ L, g n = pair d (k n) := fun n hn => hg n (by simp [hn])
    rcases ha with rfl | ⟨l, rfl⟩
    · rw [reducer_init]
      refine ih hgL _ (.inr ⟨_, rfl⟩) ?_
      rcases hm with e | ⟨m, hm, e⟩
      · exact absurd (congrArg Prod.fst e) (by simp [pair])
      · rcases List.mem_cons.mp hm with rfl | hm
        · exact .inl (by rw [e])
        · exact .inr ⟨m, hm, e⟩
    · rw [reducer_pair]
      have hbest : ∀ x, x ≠ b → (d b < d x ∨ d b = d x ∧ b < x) := fun x hx => by
        rcases lt_or_eq_of_le (hb.1 x) with h | h
        · exact .inl h
        · refine .inr ⟨h, lt_of_le_of_ne (not_lt.mp fun hlt => ?_) (Ne.symm hx)⟩
          exact absurd (hb.2 x hlt) (by rw [h]; exact lt_irrefl _)
      have hnot : ∀ x, ¬ (d x < d b ∨ d x = d b ∧ x < b) := fun x hx => by
        rcases hx with h | ⟨h, hlt⟩
        · exact absurd (hb.1 x) (not_le.mpr h)
        · exact absurd (hb.2 x hlt) (by rw [h]; exact lt_irrefl _)
      refine ih hgL _ (.inr (by split <;> exact ⟨_, rfl⟩)) ?_
      by_cases hn : k n = b
      · left; rw [hn, if_neg (hnot l)]
      · rcases hm with e | ⟨m, hm, e⟩
        · left
          have hl : BitVec.ofNat 32 l.val = BitVec.ofNat 32 b.val := congrArg Prod.snd e
          have hlb : l = b := Fin.ext (by
            have := congrArg BitVec.toNat hl
            rwa [BitVec.toNat_ofNat, BitVec.toNat_ofNat, Nat.mod_eq_of_lt (by omega), Nat.mod_eq_of_lt (by omega)] at this)
          rw [hlb, if_pos (hbest _ hn)]
        · rcases List.mem_cons.mp hm with rfl | hm
          · exact absurd e hn
          · exact .inr ⟨m, hm, e⟩

/-- The same for the reduction: every element that goes to `j` is some row's pair, and the first nearest row is among
    them. -/
theorem argReduce_pair {s t u : Shape} {axes : List (Fin s.rank)} (h : s.ReducesTo axes t) (hu : 0 < u.numel)
    {x : FVec Ideal s .f32} {y : s.Idx → BitVec 32} {ix : FVec Ideal u .f32} {iy : u.Idx → BitVec 32} {d : Fin 8192 → ℝ}
    {b : Fin 8192} (hb : FirstMin d b) {j : t.Idx} (hix : ∀ i, ix i = (⊤ : EReal)) (hiy : ∀ i, iy i = 0#32)
    (k : s.Idx → Fin 8192) (hj : ∀ i, h.drop i = j → (x i, y i) = pair d (k i)) (i₀ : s.Idx) (hi₀ : h.drop i₀ = j)
    (hk : k i₀ = b) :
    Host.argReduce (reducer_argmin_f32_i32 (F := Ideal)) x y ix iy h hu j = pair d b := by
  rw [Ideal.argReduce_eq_reduce2]
  unfold Host.reduce2
  rw [hix, hiy]
  refine foldl_pair hb (fun n => (x (s.rowMajor.symm n), y (s.rowMajor.symm n)))
    (fun n => k (s.rowMajor.symm n)) _
    (fun n hn => hj _ (by simpa using (List.mem_filter.mp hn).2)) _ (.inl rfl) (.inr ⟨s.rowMajor i₀, ?_, ?_⟩)
  · simp [hi₀]
  · simp [hk]

theorem drop_rows (b : Fin 32) (n : Fin 1024) (k : Fin 8192) :
    reducesTo_S32x1024x8192_S32x1024_d2.drop (ix3 b n k) = ix2 b n := by
  funext a
  match a with
  | ⟨0, _⟩ => exact Fin.ext (Shape.ReducesTo.drop_apply_val_of_eq _ (ix3 b n k) 0 0)
  | ⟨1, _⟩ => exact Fin.ext (Shape.ReducesTo.drop_apply_val_of_eq _ (ix3 b n k) 1 1)

theorem iota_rows (b : Fin 32) (n : Fin 1024) (k : Fin 8192) :
    iotaInDim S32x1024x8192 32 2 (ix3 b n k) = BitVec.ofNat 32 k.val := by
  pointwise

theorem leastT_apply {D : FVec Ideal S32x1024x8192 .f32} {d : Fin 32 → Fin 1024 → Fin 8192 → ℝ}
    (hD : ∀ b n k, D (ix3 b n k) = ((d b n k : ℝ) : EReal)) (b : Fin 32) (n : Fin 1024) {m : Fin 8192}
    (hm : FirstMin (d b n) m) : leastT D (ix2 b n) = pair (d b n) m := by
  refine argReduce_pair _ _ hm (fun _ => ofBits_inf) (fun _ => rfl) (fun i => i 2) (fun i hi => ?_)
    (ix3 b n m) (drop_rows b n m) rfl
  obtain ⟨b', n', k, rfl⟩ : ∃ (b' : Fin 32) (n' : Fin 1024) (k : Fin 8192), i = ix3 b' n' k := ⟨_, _, _, eq_ix3 i⟩
  rw [drop_rows] at hi
  obtain ⟨rfl, rfl⟩ := (ix2_inj _ _ _ _).mp hi
  rw [hD, iota_rows]; rfl

/-- The index found for a token is that of its first nearest row. -/
theorem idxT_apply {D : FVec Ideal S32x1024x8192 .f32} {d : Fin 32 → Fin 1024 → Fin 8192 → ℝ}
    (hD : ∀ b n k, D (ix3 b n k) = ((d b n k : ℝ) : EReal)) (b : Fin 32) (n : Fin 1024) {m : Fin 8192}
    (hm : FirstMin (d b n) m) : idxT D (ix2 b n) = BitVec.ofNat 32 m.val :=
  seconds_apply (L := leastT D) (leastT_apply hD b n hm)

/-! ## The row look-up -/

/-- A gathered row. -/
theorem gather_apply (c : FVec Ideal S8192x32 .f32) (ix : IVec S32x1024x1 32) (b : Fin 32) (n : Fin 1024) (i : Fin 32)
    {k : Fin 8192} (hk : ix (ix3 b n 0) = BitVec.ofNat 32 k.val) :
    Host.gather gather_S8192x32_S32x1024x1_S32x1024x32_2_0_n_n_0_2_132 c ix (ix3 b n i) = c (ix2 k i) := by
  unfold Host.gather
  congr 1
  have hsi : ∀ z, GatherDims.siIdx gather_S8192x32_S32x1024x1_S32x1024x32_2_0_n_n_0_2_132 (ix3 b n i) z = ix3 b n 0 := by
    intro z
    funext a
    match a with
    | ⟨0, _⟩ => rfl
    | ⟨1, _⟩ => rfl
    | ⟨2, _⟩ => exact Subsingleton.elim (α := Fin 1) _ _
  funext a
  match a with
  | ⟨0, _⟩ =>
    refine Fin.ext ?_
    show GatherDims.start _ _ _ _ + GatherDims.batchCoord _ _ _ + GatherDims.offCoord _ _ _ = k.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos]
    rotate_left
    · exact List.mem_singleton.mpr rfl
    rw [hsi, hk, Predicate.toInt_ofNat_small _ (by omega)]
    show min k.val (8192 - 1) + 0 + 0 = k.val
    omega
  | ⟨1, _⟩ =>
    refine Fin.ext ?_
    show GatherDims.start _ _ _ _ + GatherDims.batchCoord _ _ _ + GatherDims.offCoord _ _ _ = i.val
    rw [GatherDims.batchCoord_eq_zero _ _ _ List.not_mem_nil]
    unfold GatherDims.start
    rw [dif_neg]
    rotate_left
    · exact fun h => absurd (congrArg Fin.val (List.mem_singleton.mp h)) Nat.one_ne_zero
    show 0 + 0 + _ = _
    rw [Nat.zero_add]
    rfl

/-- The word of a row's number is not negative. -/
theorem slt_zero_row (k : Fin 8192) : IntOp.cmpi .slt (BitVec.ofNat 32 k.val) 0#32 = 0#1 :=
  (slt_row k 0).trans (if_neg (Fin.not_lt_zero k))
theorem zero_sle_row (k : Fin 8192) : IntOp.cmpi .sge (BitVec.ofNat 32 k.val) 0#32 = 1#1 :=
  (Predicate.sle_ofNat_iff 0 k.val (by omega) (by omega)).mpr (Nat.zero_le _)
theorem row_sle_last (k : Fin 8192) : IntOp.cmpi .sle (BitVec.ofNat 32 k.val) 8191#32 = 1#1 :=
  (Predicate.sle_ofNat_iff k.val 8191 (by omega) (by omega)).mpr (by omega)

theorem wrapT_apply {ix : IVec S32x1024 32} {b : Fin 32} {n : Fin 1024} {k : Fin 8192}
    (hk : ix (ix2 b n) = BitVec.ofNat 32 k.val) (z : Fin 1) : wrapT ix (ix3 b n z) = BitVec.ofNat 32 k.val := by
  pointwise [wrapT]
  rw [hk, slt_zero_row]; rfl

theorem insideT_apply {w : IVec S32x1024x1 32} {b : Fin 32} {n : Fin 1024} {k : Fin 8192}
    (hk : w (ix3 b n 0) = BitVec.ofNat 32 k.val) : insideT w (ix2 b n) = 1#1 := by
  pointwise [insideT]
  rw [Finset.univ_unique, Finset.fold_singleton]
  show IntOp.andi (IntOp.andi (IntOp.cmpi .sge (w (ix3 b n 0)) 0#32) (IntOp.cmpi .sle (w (ix3 b n 0)) 8191#32)) 1#1 = 1#1
  rw [hk, zero_sle_row, row_sle_last]; rfl

/-- The looked-up row. -/
theorem takeT_apply {c : FVec Ideal S8192x32 .f32} {ix : IVec S32x1024 32} {b : Fin 32} {n : Fin 1024} {k : Fin 8192}
    (hk : ix (ix2 b n) = BitVec.ofNat 32 k.val) (i : Fin 32) : takeT c ix (ix3 b n i) = c (ix2 k i) := by
  have h := wrapT_apply hk 0
  pointwise [takeT]
  rw [insideT_apply h, gather_apply _ _ _ _ _ h]; rfl

/-- The mean squared difference of real rows `u` from real tokens `v`. -/
theorem lossT_apply {q r : FVec Ideal S32x1024x32 .f32} {u v : Fin 32 → Fin 1024 → Fin 32 → ℝ}
    (hq : ∀ b n i, q (ix3 b n i) = ((u b n i : ℝ) : EReal)) (hr : ∀ b n i, r (ix3 b n i) = ((v b n i : ℝ) : EReal)) (j) :
    lossT q r j = (((∑ b, ∑ n, ∑ i, (v b n i - u b n i) * (v b n i - u b n i)) / 1048576 : ℝ) : EReal) := by
  pointwise [lossT]
  simp only [hq, hr, ← EReal.coe_sub, ← EReal.coe_mul, ← coe_sum, ofBits_count]
  rw [Ideal.div_coe (by norm_num), ← EReal.coe_mul, mul_one_div]
  have e : ∀ b n i, (u b n i - v b n i) * (u b n i - v b n i) = (v b n i - u b n i) * (v b n i - u b n i) :=
    fun _ _ _ => by ring
  simp only [e]

/-! ## One pass -/

/-- One pass of the reference over the tokens after `q` passes of the model. -/
theorem pass_model {W : Valuation τ sig (Elt Ideal)} {tok cb sq φ} (h : Solves W (quantOps tok cb sq φ))
    {v : Fin 32 → Fin 1024 → Fin 32 → ℝ} {w : Fin 8192 → Fin 32 → ℝ} {q : ℕ}
    (ha : ∀ b n i, (rd W tok : FVec Ideal S32x1024x32 .f32) (ix3 b n i) = ((resid w (v b n) q i : ℝ) : EReal))
    (hb : ∀ k i, (rd W cb : FVec Ideal S8192x32 .f32) (ix2 k i) = ((w k i : ℝ) : EReal))
    (hc : ∀ k, (rd W sq : FVec Ideal S8192 .f32) (ix1 k) = ((∑ i, w k i * w k i : ℝ) : EReal)) :
    (∀ b n, (rd W φ.call0.v1_1 : IVec S32x1024 32) (ix2 b n) = BitVec.ofNat 32 (best w (resid w (v b n) q)).val)
      ∧ (∀ j, (rd W φ.v16 : FVec Ideal S_ .f32) j
          = (((∑ b, ∑ n, ∑ i, resid w (v b n) (q + 1) i * resid w (v b n) (q + 1) i) / 1048576 : ℝ) : EReal))
      ∧ (∀ b n i, (rd W φ.v18 : FVec Ideal S32x1024x32 .f32) (ix3 b n i)
          = ((resid w (v b n) q i - resid w (v b n) (q + 1) i : ℝ) : EReal))
      ∧ (∀ b n i, (rd W φ.v19 : FVec Ideal S32x1024x32 .f32) (ix3 b n i) = ((resid w (v b n) (q + 1) i : ℝ) : EReal)) := by
  obtain ⟨hi, hl, hs, hn⟩ := quant_reads h
  have hidx : ∀ b n, (rd W φ.call0.v1_1 : IVec S32x1024 32) (ix2 b n) = BitVec.ofNat 32 (best w (resid w (v b n) q)).val :=
    fun b n => by rw [hi]; exact idxT_apply (distT_apply ha hb hc) b n (best_firstMin _ _)
  have htake := fun (b : Fin 32) (n : Fin 1024) (i : Fin 32) => (takeT_apply (c := rd W cb) (hidx b n) i).trans (hb _ i)
  refine ⟨hidx, fun j => ?_, fun b n i => ?_, fun b n i => ?_⟩
  · rw [hl]; exact lossT_apply htake ha j
  · rw [hs]; pointwise
    rw [htake, ha, ← EReal.coe_sub, ← EReal.coe_add]
    simp [resid, step]
  · rw [hn]; pointwise
    rw [htake, ha, ← EReal.coe_sub]; rfl

end Cert.ReferenceIdeal.Val
-- ==== Proof.RefResults.lean ====
/-
  The results of the reference as functions of its arguments. For real tokens `v` and codebook `w`, after a run of the
  whole line (`Solves W mainOps`): the sum of the eight straight-through rows is `v - resid w v 8`, the index tensor holds the
  number of the best row of every pass, and the losses are the mean squares of the residuals (`results_model`).
-/
module

public import proofs.«01_k».proof.Proof.RefValue

@[expose] public section

noncomputable section

namespace Cert.ReferenceIdeal.Val

open Idealize.ShloMosaic Idealize.ShloMosaic.TcCoe Idealize.ShloMosaic.StableHlo Cert.Ssa Cert.Model Cert.RealSums
open Facts₀ Facts

/-- The running sum of the straight-through rows after one more pass. -/
theorem total_step {t s t' : FVec Ideal S32x1024x32 .f32} {v r r' : Fin 32 → Fin 1024 → Fin 32 → ℝ} (e : t' = addf t s)
    (ht : ∀ b n i, t (ix3 b n i) = ((v b n i - r b n i : ℝ) : EReal))
    (hs : ∀ b n i, s (ix3 b n i) = ((r b n i - r' b n i : ℝ) : EReal)) (b n i) :
    t' (ix3 b n i) = ((v b n i - r' b n i : ℝ) : EReal) := by
  subst e
  pointwise
  rw [ht, hs, ← EReal.coe_add]; congr 1; ring

variable {W : Valuation τ sig (Elt Ideal)} {v : Fin 32 → Fin 1024 → Fin 32 → ℝ} {w : Fin 8192 → Fin 32 → ℝ}

/-- Eight columns laid side by side, read at a column. -/
theorem columns_apply (u : Fin 8 → IVec S32x1024x1 32) (b : Fin 32) (n : Fin 1024) (q : Fin 8) :
    concatenate S32x1024x8 2 [⟨S32x1024x1, u 0⟩, ⟨S32x1024x1, u 1⟩, ⟨S32x1024x1, u 2⟩, ⟨S32x1024x1, u 3⟩,
      ⟨S32x1024x1, u 4⟩, ⟨S32x1024x1, u 5⟩, ⟨S32x1024x1, u 6⟩, ⟨S32x1024x1, u 7⟩]
      concatenates_S32x1024x1_S32x1024x1_S32x1024x1_S32x1024x1_S32x1024x1_S32x1024x1_S32x1024x1_S32x1024x1_S32x1024x8_d2
      (ix3 b n q) = u q (ix3 b n 0) := by
  refine concatenate_ofFn_unit_apply (t := S32x1024x8) (s₁ := S32x1024x1) 2 u _ rfl rfl (ix3 b n q) q rfl (ix3 b n 0) ?_
  intro a ha
  fin_cases a
  · rfl
  · rfl
  · exact absurd rfl ha

/-- Eight one-element rows laid end to end, read at a place. -/
theorem places_apply (u : Fin 8 → FVec Ideal S1 .f32) (q : Fin 8) :
    concatenate S8 0 [⟨S1, u 0⟩, ⟨S1, u 1⟩, ⟨S1, u 2⟩, ⟨S1, u 3⟩, ⟨S1, u 4⟩, ⟨S1, u 5⟩, ⟨S1, u 6⟩, ⟨S1, u 7⟩]
      concatenates_S1_S1_S1_S1_S1_S1_S1_S1_S8_d0 (ix1 q) = u q (ix1 0) := by
  refine concatenate_ofFn_unit_apply (t := S8) (s₁ := S1) 0 u _ rfl rfl (ix1 q) q rfl (ix1 0) ?_
  intro a ha
  exact absurd (Subsingleton.elim _ _) ha

/-- A statement about eight passes, given at each. -/
theorem forall_pass {P : Fin 8 → Prop} (h0 : P 0) (h1 : P 1) (h2 : P 2) (h3 : P 3) (h4 : P 4) (h5 : P 5) (h6 : P 6) (h7 : P 7)
    (q : Fin 8) : P q := by
  fin_cases q <;> assumption

/-- A tensor of row numbers stood up as a column. -/
theorem column {t : IVec S32x1024 32} {c : IVec S32x1024x1 32}
    (e : c = broadcastInDim S32x1024x1 ![0, 1] bcast_S32x1024_S32x1024x1_0_1 t) {b : Fin 32} {n : Fin 1024} {x : BitVec 32}
    (h : t (ix2 b n) = x) : c (ix3 b n 0) = x := by
  subst e; pointwise; exact h

/-- A scalar as a one-element row. -/
theorem place {t : FVec Ideal S_ .f32} {c : FVec Ideal S1 .f32} (e : c = broadcastInDim S1 ![] bcast_S_S1 t) {x : EReal}
    (h : ∀ j, t j = x) : c (ix1 0) = x := by
  subst e; pointwise; exact h _

set_option maxHeartbeats 1000000 in
theorem results_model (h : Solves W mainOps)
    (hx : ∀ b n i, (W (Proc.devRef .tc main_arg0) : FVec Ideal S32x1024x32 .f32) (ix3 b n i) = ((v b n i : ℝ) : EReal))
    (hw : ∀ k i, (W (Proc.devRef .tc main_arg1) : FVec Ideal S8192x32 .f32) (ix2 k i) = ((w k i : ℝ) : EReal)) :
    (∀ b n i, (W (Proc.devRef .tc main_v18) : FVec Ideal S32x1024x32 .f32) (ix3 b n i)
        = ((v b n i - resid w (v b n) 8 i : ℝ) : EReal))
      ∧ (∀ b n q, (W (Proc.devRef .tc main_v27) : IVec S32x1024x8 32) (ix3 b n q)
        = BitVec.ofNat 32 (best w (resid w (v b n) q.val)).val)
      ∧ (∀ q, (W (Proc.devRef .tc main_v36) : FVec Ideal S8 .f32) (ix1 q) = ((meanSquare w v q.val : ℝ) : EReal)) := by
  unfold mainOps at h
  simp only [solves_cons, solves_append] at h
  obtain ⟨hz, h0, hm, hz', hc, p0, s0, p1, s1, p2, s2, p3, s3, p4, s4, p5, s5, p6, s6, p7, s7, c0, c1, c2, c3, c4, c5, c6, c7,
    hi, d0, d1, d2, d3, d4, d5, d6, d7, hl, -⟩ := h
  have hsq : ∀ k, (W (Proc.devRef .tc main_v2) : FVec Ideal S8192 .f32) (ix1 k) = ((∑ i, w k i * w k i : ℝ) : EReal) := by
    intro k
    rw [solved_binary hc, solved_binary hm, solved_nullary hz']
    pointwise
    simp only [hw, ← EReal.coe_mul, ← coe_sum]
  have t0 : ∀ b n i, (W (Proc.devRef .tc main_v0) : FVec Ideal S32x1024x32 .f32) (ix3 b n i)
      = ((v b n i - resid w (v b n) 0 i : ℝ) : EReal) := by
    intro b n i
    rw [solved_unary h0, solved_nullary hz]
    pointwise
    simp [resid]
  obtain ⟨i0, l0, g0, n0⟩ := pass_model p0 (q := 0) hx hw hsq
  obtain ⟨i1, l1, g1, n1⟩ := pass_model p1 (q := 1) n0 hw hsq
  obtain ⟨i2, l2, g2, n2⟩ := pass_model p2 (q := 2) n1 hw hsq
  obtain ⟨i3, l3, g3, n3⟩ := pass_model p3 (q := 3) n2 hw hsq
  obtain ⟨i4, l4, g4, n4⟩ := pass_model p4 (q := 4) n3 hw hsq
  obtain ⟨i5, l5, g5, n5⟩ := pass_model p5 (q := 5) n4 hw hsq
  obtain ⟨i6, l6, g6, n6⟩ := pass_model p6 (q := 6) n5 hw hsq
  obtain ⟨i7, l7, g7, n7⟩ := pass_model p7 (q := 7) n6 hw hsq
  have t1 := total_step (solved_binary s0) t0 g0
  have t2 := total_step (solved_binary s1) t1 g1
  have t3 := total_step (solved_binary s2) t2 g2
  have t4 := total_step (solved_binary s3) t3 g3
  have t5 := total_step (solved_binary s4) t4 g4
  have t6 := total_step (solved_binary s5) t5 g5
  have t7 := total_step (solved_binary s6) t6 g6
  have t8 := total_step (solved_binary s7) t7 g7
  refine ⟨t8, fun b n => ?_, ?_⟩
  · have e : ∀ q, (W (Proc.devRef .tc main_v27) : IVec S32x1024x8 32) (ix3 b n q) = _ :=
      fun q => (congrFun (solved_nary hi) (ix3 b n q)).trans (columns_apply
        ![W (Proc.devRef .tc main_v19), W (Proc.devRef .tc main_v20), W (Proc.devRef .tc main_v21),
          W (Proc.devRef .tc main_v22), W (Proc.devRef .tc main_v23), W (Proc.devRef .tc main_v24),
          W (Proc.devRef .tc main_v25), W (Proc.devRef .tc main_v26)] b n q)
    exact forall_pass ((e 0).trans (column (solved_unary c0) (i0 b n))) ((e 1).trans (column (solved_unary c1) (i1 b n)))
      ((e 2).trans (column (solved_unary c2) (i2 b n))) ((e 3).trans (column (solved_unary c3) (i3 b n))) ((e 4).trans (column (solved_unary c4) (i4 b n)))
      ((e 5).trans (column (solved_unary c5) (i5 b n))) ((e 6).trans (column (solved_unary c6) (i6 b n))) ((e 7).trans (column (solved_unary c7) (i7 b n)))
  · have e : ∀ q, (W (Proc.devRef .tc main_v36) : FVec Ideal S8 .f32) (ix1 q) = _ :=
      fun q => (congrFun (solved_nary hl) (ix1 q)).trans (places_apply
        ![W (Proc.devRef .tc main_v28), W (Proc.devRef .tc main_v29), W (Proc.devRef .tc main_v30),
          W (Proc.devRef .tc main_v31), W (Proc.devRef .tc main_v32), W (Proc.devRef .tc main_v33),
          W (Proc.devRef .tc main_v34), W (Proc.devRef .tc main_v35)] q)
    exact forall_pass ((e 0).trans (place (solved_unary d0) l0)) ((e 1).trans (place (solved_unary d1) l1)) ((e 2).trans (place (solved_unary d2) l2))
      ((e 3).trans (place (solved_unary d3) l3)) ((e 4).trans (place (solved_unary d4) l4)) ((e 5).trans (place (solved_unary d5) l5)) ((e 6).trans (place (solved_unary d6) l6))
      ((e 7).trans (place (solved_unary d7) l7))

end Cert.ReferenceIdeal.Val
-- ==== Proof.Results.lean ====
/-
  The two programs' results are the same: each is the model's, read element by element. And the reference's frame.
-/
module

public import proofs.«01_k».proof.Defs
public import proofs.«01_k».proof.Proof.Gen.Pre_finite
public import proofs.«01_k».proof.Proof.Finite
public import proofs.«01_k».proof.Proof.KerRun
public import proofs.«01_k».proof.Proof.RefRun
public import proofs.«01_k».proof.Proof.RefResults

@[expose] public section

noncomputable section

namespace Cert.Results

open Idealize.ShloMosaic Idealize.ShloMosaic.TcCoe Idealize.SL.Sem Cert.Ssa Cert.Model

/-- Two arrays with the same element at every place are the same array, for one, two and three axes. -/
theorem ext1 {α : Type} {a : ℕ} {f g : (⟨1, ![a]⟩ : Shape).Idx → α} (h : ∀ i : Fin a, f (ix1 i) = g (ix1 i)) : f = g := by
  funext y
  have hy : y = ix1 (y 0) := funext fun k => match k with | ⟨0, _⟩ => rfl
  rw [hy]; exact h _

theorem ext3 {α : Type} {a b c : ℕ} {f g : (⟨3, ![a, b, c]⟩ : Shape).Idx → α}
    (h : ∀ (i : Fin a) (j : Fin b) (k : Fin c), f (ix3 i j k) = g (ix3 i j k)) : f = g := by
  funext y
  have hy : y = ix3 (y 0) (y 1) (y 2) := funext fun k => match k with | ⟨0, _⟩ => rfl | ⟨1, _⟩ => rfl | ⟨2, _⟩ => rfl
  rw [hy]; exact h _ _ _

/-- The reference ends with its arguments as they were and every semaphore at zero. -/
theorem reference_frame (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      fun r => (∀ c : Dev ReferenceIdeal.nD,
        r.2.mem ((c.tc : Thread ReferenceIdeal.nD ReferenceIdeal.τ).loc ReferenceIdeal.main_arg0)
            = m ((c.tc : Thread ReferenceIdeal.nD ReferenceIdeal.τ).loc ReferenceIdeal.main_arg0)
          ∧ r.2.mem ((c.tc : Thread ReferenceIdeal.nD ReferenceIdeal.τ).loc ReferenceIdeal.main_arg1)
            = m ((c.tc : Thread ReferenceIdeal.nD ReferenceIdeal.τ).loc ReferenceIdeal.main_arg1))
        ∧ r.2.sem = fun _ => 0 :=
  (θ_run _ _ _).mono (fun _ h => ⟨fun c => by
    obtain ⟨W, _, hm, h0, h1⟩ := h.1 c
    exact ⟨(hm _).trans h0, (hm _).trans h1⟩, h.2⟩) (ReferenceIdeal.Val.run m ρ)

/-- On arguments of finite elements the kernel and the reference end with the same three results. -/
theorem same_results : Cert.algebraic_KernelIdeal_ReferenceIdeal_pre_finite := by
  intro m g m' g' hp hm
  have holds : ∀ c : Dev KernelIdeal.nD, ∃ v w, KernelIdeal.Val.Holds m c v w := fun c =>
    ⟨fun b n i => (m ((c.tc : Thread KernelIdeal.nD KernelIdeal.τ).loc KernelIdeal.main_arg0) (ix3 b n i) : EReal).toReal,
      fun k i => (m ((c.tc : Thread KernelIdeal.nD KernelIdeal.τ).loc KernelIdeal.main_arg1) (ix2 k i) : EReal).toReal,
      fun b n i => (Finite.reals (hp c)).1 _, fun k i => (Finite.reals (hp c)).2 _⟩
  refine ⟨fun c => KernelIdeal.Val.ending m c (Proc.devRef .tc KernelIdeal.main_v13),
    fun c => KernelIdeal.Val.ending m c (Proc.devRef .tc KernelIdeal.main_v14),
    fun c => KernelIdeal.Val.ending m c (Proc.devRef .tc KernelIdeal.main_v12), KernelIdeal.Val.run m g,
    (θ_run _ _ _).mono (fun r h c => ?_) (ReferenceIdeal.Val.run m' g')⟩
  obtain ⟨v, w, hv⟩ := holds c
  obtain ⟨W, hW, hmem, h0, h1⟩ := h.1 c
  obtain ⟨k0, k1, k2⟩ := KernelIdeal.Val.ending_model hv
  obtain ⟨r0, r1, r2⟩ := ReferenceIdeal.Val.results_model hW
    (fun b n i => (congrFun (h0.trans (hm c).1) (ix3 b n i)).trans (hv.1 b n i))
    (fun k i => (congrFun (h1.trans (hm c).2) (ix2 k i)).trans (hv.2 k i))
  exact ⟨(hmem _).trans (ext3 fun b n i => (r0 b n i).trans (k0 b n i).symm),
    (hmem _).trans (ext3 fun b n q => (r1 b n q).trans (k1 b n q).symm),
    (hmem _).trans (ext1 fun q => (r2 q).trans (k2 q).symm), (hmem _).trans h0, (hmem _).trans h1⟩

end Cert.Results
-- ==== Proof.lean ====
/-
  The proof of every claim of the statement. The frames of the kernel and of its idealization are what the runs of the generated
  modules end with; the reference's frame and the equality of the results are proved in Proof/Results.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Results
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g,
    fun m g _ => Cert.KernelIdeal.Gen.frame m g, fun m g _ => Cert.Results.reference_frame m g,
    fun m g _ => Cert.Results.reference_frame m g, trivial, Cert.Results.same_results⟩

end Cert.Proof

end
